-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_on_lanes [hKernel2Ideal : Cert.Kernel2Ideal.Facts] [hReference2Ideal : Cert.Reference2Ideal.Facts] [hOn_lanes : Cert.On_lanes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v60_0)) (v1 : (c : Dev Cert.Kernel2Ideal.nD) → Buf (Elt Ideal) ((c.tc : Thread Cert.Kernel2Ideal.nD Cert.Kernel2Ideal.τ).loc Cert.Kernel2Ideal.main_v60_1)) (v2 : (c : Dev Cert.Kernel2Ideal.nD) → Buf (Elt Ideal) ((c.tc : Thread Cert.Kernel2Ideal.nD Cert.Kernel2Ideal.τ).loc Cert.Kernel2Ideal.main_v60_2)) (v3 : (c : Dev Cert.Kernel2Ideal.nD) → Buf (Elt Ideal) ((c.tc : Thread Cert.Kernel2Ideal.nD Cert.Kernel2Ideal.τ).loc Cert.Kernel2Ideal.main_v60_3)) (v4 : (c : Dev Cert.Kernel2Ideal.nD) → Buf (Elt Ideal) ((c.tc : Thread Cert.Kernel2Ideal.nD Cert.Kernel2Ideal.τ).loc Cert.Kernel2Ideal.main_v60_4)) (v5 : (c : Dev Cert.Kernel2Ideal.nD) → Buf (Elt Ideal) ((c.tc : Thread Cert.Kernel2Ideal.nD Cert.Kernel2Ideal.τ).loc Cert.Kernel2Ideal.main_v60_5)) (v6 : (c : Dev Cert.Kernel2Ideal.nD) → Buf (Elt Ideal) ((c.tc : Thread Cert.Kernel2Ideal.nD Cert.Kernel2Ideal.τ).loc Cert.Kernel2Ideal.main_v60_6)) (v7 : (c : Dev Cert.Kernel2Ideal.nD) → Buf (Elt Ideal) ((c.tc : Thread Cert.Kernel2Ideal.nD Cert.Kernel2Ideal.τ).loc Cert.Kernel2Ideal.main_v60_7)) (v8 : (c : Dev Cert.Kernel2Ideal.nD) → Buf (Elt Ideal) ((c.tc : Thread Cert.Kernel2Ideal.nD Cert.Kernel2Ideal.τ).loc Cert.Kernel2Ideal.main_v60_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 i = 1#1 → r.2.mem ((c.tc : Thread Cert.Kernel2Ideal.nD Cert.Kernel2Ideal.τ).loc Cert.Kernel2Ideal.main_v60_0) i = v0 c i)
          ∧ (∀ i : (⟨4, ![32, 2, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 i = 1#1 → r.2.mem ((c.tc : Thread Cert.Kernel2Ideal.nD Cert.Kernel2Ideal.τ).loc Cert.Kernel2Ideal.main_v60_1) i = v1 c i)
          ∧ (∀ i : (⟨3, ![32, 2048, 1024]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 i = 1#1 → r.2.mem ((c.tc : Thread Cert.Kernel2Ideal.nD Cert.Kernel2Ideal.τ).loc Cert.Kernel2Ideal.main_v60_2) i = v2 c i)
          ∧ (∀ i : (⟨3, ![32, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 i = 1#1 → r.2.mem ((c.tc : Thread Cert.Kernel2Ideal.nD Cert.Kernel2Ideal.τ).loc Cert.Kernel2Ideal.main_v60_3) i = v3 c i)
          ∧ (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 i = 1#1 → r.2.mem ((c.tc : Thread Cert.Kernel2Ideal.nD Cert.Kernel2Ideal.τ).loc Cert.Kernel2Ideal.main_v60_4) i = v4 c i)
          ∧ (∀ i : (⟨3, ![32, 2048, 640]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 i = 1#1 → r.2.mem ((c.tc : Thread Cert.Kernel2Ideal.nD Cert.Kernel2Ideal.τ).loc Cert.Kernel2Ideal.main_v60_5) i = v5 c i)
          ∧ (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 i = 1#1 → r.2.mem ((c.tc : Thread Cert.Kernel2Ideal.nD Cert.Kernel2Ideal.τ).loc Cert.Kernel2Ideal.main_v60_6) i = v6 c i)
          ∧ (∀ i : (⟨3, ![32, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 i = 1#1 → r.2.mem ((c.tc : Thread Cert.Kernel2Ideal.nD Cert.Kernel2Ideal.τ).loc Cert.Kernel2Ideal.main_v60_7) i = v7 c i)
          ∧ (∀ i : (⟨3, ![32, 2048, 2048]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 i = 1#1 → r.2.mem ((c.tc : Thread Cert.Kernel2Ideal.nD Cert.Kernel2Ideal.τ).loc Cert.Kernel2Ideal.main_v60_8) i = v8 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 i = 1#1 → r.2.mem ((c.tc : Thread Cert.Reference2Ideal.nD Cert.Reference2Ideal.τ).loc Cert.Reference2Ideal.main_v137) i = v0 c i)
          ∧ (∀ i : (⟨4, ![32, 2, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 i = 1#1 → r.2.mem ((c.tc : Thread Cert.Reference2Ideal.nD Cert.Reference2Ideal.τ).loc Cert.Reference2Ideal.main_v78) i = v1 c i)
          ∧ (∀ i : (⟨3, ![32, 2048, 1024]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 i = 1#1 → r.2.mem ((c.tc : Thread Cert.Reference2Ideal.nD Cert.Reference2Ideal.τ).loc Cert.Reference2Ideal.main_v138) i = v2 c i)
          ∧ (∀ i : (⟨3, ![32, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 i = 1#1 → r.2.mem ((c.tc : Thread Cert.Reference2Ideal.nD Cert.Reference2Ideal.τ).loc Cert.Reference2Ideal.main_v134) i = v3 c i)
          ∧ (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 i = 1#1 → r.2.mem ((c.tc : Thread Cert.Reference2Ideal.nD Cert.Reference2Ideal.τ).loc Cert.Reference2Ideal.main_v140) i = v4 c i)
          ∧ (∀ i : (⟨3, ![32, 2048, 640]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 i = 1#1 → r.2.mem ((c.tc : Thread Cert.Reference2Ideal.nD Cert.Reference2Ideal.τ).loc Cert.Reference2Ideal.main_v141) i = v5 c i)
          ∧ (∀ i : (⟨3, ![32, 2048, 512]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 i = 1#1 → r.2.mem ((c.tc : Thread Cert.Reference2Ideal.nD Cert.Reference2Ideal.τ).loc Cert.Reference2Ideal.main_v142) i = v6 c i)
          ∧ (∀ i : (⟨3, ![32, 2048, 128]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 i = 1#1 → r.2.mem ((c.tc : Thread Cert.Reference2Ideal.nD Cert.Reference2Ideal.τ).loc Cert.Reference2Ideal.main_v136) i = v7 c i)
          ∧ (∀ i : (⟨3, ![32, 2048, 2048]⟩ : Shape).Idx, (Cert.On_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 i = 1#1 → r.2.mem ((c.tc : Thread Cert.Reference2Ideal.nD Cert.Reference2Ideal.τ).loc Cert.Reference2Ideal.main_v143) i = v8 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hOn_lanes : Cert.On_lanes.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_lanes (hKernel2Ideal := hKernel2Ideal) (hReference2Ideal := hReference2Ideal) (hOn_lanes := hOn_lanes)
    ∧ preserves_Kernel3_Kernel3Ideal
    ∧ algebraic_Kernel3Ideal_Reference3Ideal (hKernel3Ideal := hKernel3Ideal) (hReference3Ideal := hReference3Ideal)
-- ==== On_lanes.lean ====
abbrev S32x2048x1024 : Shape := ⟨3, ![32, 2048, 1024]⟩
abbrev S32x6144 : Shape := ⟨2, ![32, 6144]⟩
abbrev S1024 : Shape := ⟨1, ![1024]⟩
abbrev S1024x4576 : Shape := ⟨2, ![1024, 4576]⟩
abbrev S64 : Shape := ⟨1, ![64]⟩
abbrev S_ : Shape := ⟨0, ![]⟩
abbrev S32x2048x512 : Shape := ⟨3, ![32, 2048, 512]⟩
abbrev S32x2x2048x128 : Shape := ⟨4, ![32, 2, 2048, 128]⟩
abbrev S32x2048x128 : Shape := ⟨3, ![32, 2048, 128]⟩
abbrev S32x2048x640 : Shape := ⟨3, ![32, 2048, 640]⟩
abbrev S32x2048x2048 : Shape := ⟨3, ![32, 2048, 2048]⟩

class Facts : Prop where
  bcast_S_S32x2048x512 : S_.BroadcastsInDim S32x2048x512 (![] : Fin 0 → Fin S32x2048x512.rank)
  bcast_S_S32x2x2048x128 : S_.BroadcastsInDim S32x2x2048x128 (![] : Fin 0 → Fin S32x2x2048x128.rank)
  bcast_S_S32x2048x1024 : S_.BroadcastsInDim S32x2048x1024 (![] : Fin 0 → Fin S32x2048x1024.rank)
  bcast_S_S32x2048x128 : S_.BroadcastsInDim S32x2048x128 (![] : Fin 0 → Fin S32x2048x128.rank)
  bcast_S_S32x2048x640 : S_.BroadcastsInDim S32x2048x640 (![] : Fin 0 → Fin S32x2048x640.rank)
  bcast_S_S32x2048x2048 : S_.BroadcastsInDim S32x2048x2048 (![] : Fin 0 → Fin S32x2048x2048.rank)

variable [Facts]

def fn_part1 {F : FTy → Type} [FloatOps F] (main_v0 : IVec S32x2048x512 1) (main_v1 : IVec S32x2x2048x128 1) (main_v11 : IVec S32x2048x1024 1) (main_v12 : IVec S32x2048x128 1) (main_v13 : IVec S32x2048x512 1) (main_v14 : IVec S32x2048x640 32) (main_c_7 : IVec S_ 32) : IVec S32x2048x512 1 × IVec S32x2x2048x128 1 × IVec S32x2048x1024 1 × IVec S32x2048x128 1 × IVec S32x2048x512 1 × IVec S32x2048x640 1 × IVec S32x2048x512 1 × IVec S32x2048x128 1 × IVec S32x2048x2048 1 :=
  let main_v15 : IVec S32x2048x640 32 := broadcastInDim S32x2048x640 ![] bcast_S_S32x2048x640 main_c_7
  let main_v16 : IVec S32x2048x640 32 := andi main_v14 main_v15
  let main_c_8 : IVec S_ 32 := constantI S_ 32 64#32
  let main_v17 : IVec S32x2048x640 32 := broadcastInDim S32x2048x640 ![] bcast_S_S32x2048x640 main_c_8
  let main_v18 : IVec S32x2048x640 1 := cmpi .slt main_v16 main_v17
  let main_c_9 : IVec S_ 32 := constantI S_ 32 255#32
  let main_v19 : IVec S32x2048x640 32 := broadcastInDim S32x2048x640 ![] bcast_S_S32x2048x640 main_c_9
  let main_v20 : IVec S32x2048x640 32 := andi main_v14 main_v19
  let main_c_10 : IVec S_ 32 := constantI S_ 32 192#32
  let main_v21 : IVec S32x2048x640 32 := broadcastInDim S32x2048x640 ![] bcast_S_S32x2048x640 main_c_10
  let main_v22 : IVec S32x2048x640 1 := cmpi .sge main_v20 main_v21
  let main_v23 : IVec S32x2048x640 1 := ori main_v18 main_v22
  let main_v24 : IVec S32x2048x640 32 := iotaInDim S32x2048x640 32 2
  let main_c_11 : IVec S_ 32 := constantI S_ 32 512#32
  let main_v25 : IVec S32x2048x640 32 := broadcastInDim S32x2048x640 ![] bcast_S_S32x2048x640 main_c_11
  let main_v26 : IVec S32x2048x640 1 := cmpi .sge main_v24 main_v25
  let main_v27 : IVec S32x2048x640 1 := ori main_v23 main_v26
  let main_c_12 : IVec S_ 1 := constantI S_ 1 1#1
  let main_v28 : IVec S32x2048x512 1 := broadcastInDim S32x2048x512 ![] bcast_S_S32x2048x512 main_c_12
  let main_c_13 : IVec S_ 1 := constantI S_ 1 1#1
  let main_v29 : IVec S32x2048x128 1 := broadcastInDim S32x2048x128 ![] bcast_S_S32x2048x128 main_c_13
  let main_c_14 : IVec S_ 1 := constantI S_ 1 1#1
  let main_v30 : IVec S32x2048x2048 1 := broadcastInDim S32x2048x2048 ![] bcast_S_S32x2048x2048 main_c_14
  (main_v0, main_v1, main_v11, main_v12, main_v13, main_v27, main_v28, main_v29, main_v30)

def fn {F : FTy → Type} [FloatOps F] (main_arg0 : FVec F S32x2048x1024 .f32) (main_arg1 : FVec F S32x6144 .f32) (main_arg2 : FVec F S1024 .f32) (main_arg3 : FVec F S1024x4576 .f32) (main_arg4 : FVec F S64 .f32) (main_arg5 : FVec F S64 .f32) (main_arg6 : FVec F S64 .f32) (main_arg7 : FVec F S64 .f32) (main_arg8 : FVec F S64 .f32) : IVec S32x2048x512 1 × IVec S32x2x2048x128 1 × IVec S32x2048x1024 1 × IVec S32x2048x128 1 × IVec S32x2048x512 1 × IVec S32x2048x640 1 × IVec S32x2048x512 1 × IVec S32x2048x128 1 × IVec S32x2048x2048 1 :=
  let main_c : IVec S_ 1 := constantI S_ 1 1#1
  let main_v0 : IVec S32x2048x512 1 := broadcastInDim S32x2048x512 ![] bcast_S_S32x2048x512 main_c
  let main_c_0 : IVec S_ 1 := constantI S_ 1 1#1
  let main_v1 : IVec S32x2x2048x128 1 := broadcastInDim S32x2x2048x128 ![] bcast_S_S32x2x2048x128 main_c_0
  let main_v2 : IVec S32x2048x1024 32 := iotaInDim S32x2048x1024 32 2
  let main_c_1 : IVec S_ 32 := constantI S_ 32 255#32
  let main_v3 : IVec S32x2048x1024 32 := broadcastInDim S32x2048x1024 ![] bcast_S_S32x2048x1024 main_c_1
  let main_v4 : IVec S32x2048x1024 32 := andi main_v2 main_v3
  let main_c_2 : IVec S_ 32 := constantI S_ 32 64#32
  let main_v5 : IVec S32x2048x1024 32 := broadcastInDim S32x2048x1024 ![] bcast_S_S32x2048x1024 main_c_2
  let main_v6 : IVec S32x2048x1024 1 := cmpi .slt main_v4 main_v5
  let main_c_3 : IVec S_ 32 := constantI S_ 32 255#32
  let main_v7 : IVec S32x2048x1024 32 := broadcastInDim S32x2048x1024 ![] bcast_S_S32x2048x1024 main_c_3
  let main_v8 : IVec S32x2048x1024 32 := andi main_v2 main_v7
  let main_c_4 : IVec S_ 32 := constantI S_ 32 192#32
  let main_v9 : IVec S32x2048x1024 32 := broadcastInDim S32x2048x1024 ![] bcast_S_S32x2048x1024 main_c_4
  let main_v10 : IVec S32x2048x1024 1 := cmpi .sge main_v8 main_v9
  let main_v11 : IVec S32x2048x1024 1 := ori main_v6 main_v10
  let main_c_5 : IVec S_ 1 := constantI S_ 1 1#1
  let main_v12 : IVec S32x2048x128 1 := broadcastInDim S32x2048x128 ![] bcast_S_S32x2048x128 main_c_5
  let main_c_6 : IVec S_ 1 := constantI S_ 1 1#1
  let main_v13 : IVec S32x2048x512 1 := broadcastInDim S32x2048x512 ![] bcast_S_S32x2048x512 main_c_6
  let main_v14 : IVec S32x2048x640 32 := iotaInDim S32x2048x640 32 2
  let main_c_7 : IVec S_ 32 := constantI S_ 32 255#32
  fn_part1 (F := F) main_v0 main_v1 main_v11 main_v12 main_v13 main_v14 main_c_7
-- ==== Kernel.lean ====
abbrev S32x2048x1024 : Shape := ⟨3, ![32, 2048, 1024]⟩
abbrev S32x2048x512 : Shape := ⟨3, ![32, 2048, 512]⟩
abbrev S32x6144 : Shape := ⟨2, ![32, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S2x4x64x1024 : Shape := ⟨4, ![2, 4, 64, 1024]⟩
abbrev S4x2x64x1024 : Shape := ⟨4, ![4, 2, 64, 1024]⟩
abbrev S32x2048x2x4x64 : Shape := ⟨5, ![32, 2048, 2, 4, 64]⟩
abbrev S32x2048x4x2x64 : Shape := ⟨5, ![32, 2048, 4, 2, 64]⟩
abbrev S32x2048x2048 : Shape := ⟨3, ![32, 2048, 2048]⟩
abbrev S32x6x1024 : Shape := ⟨3, ![32, 6, 1024]⟩
abbrev S1x1024 : Shape := ⟨2, ![1, 1024]⟩
abbrev S1x512x1024 : Shape := ⟨3, ![1, 512, 1024]⟩
abbrev S1x512x512 : Shape := ⟨3, ![1, 512, 512]⟩
abbrev S1x512x2048 : Shape := ⟨3, ![1, 512, 2048]⟩
abbrev S1x6x1024 : Shape := ⟨3, ![1, 6, 1024]⟩
abbrev S6x1024 : Shape := ⟨2, ![6, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 32
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S32x2048x1024, .f32⟩
  | .hbm, ⟨4, _⟩ => ⟨S32x2048x1024, .f32⟩
  | .hbm, ⟨5, _⟩ => ⟨S32x6144, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S2x4x64x1024, .f32⟩
  | .hbm, ⟨14, _⟩ => ⟨S4x2x64x1024, .f32⟩
  | .hbm, ⟨15, _⟩ => ⟨S512x1024, .f32⟩
  | .hbm, ⟨16, _⟩ => ⟨S32x2048x2x4x64, .f32⟩
  | .hbm, ⟨17, _⟩ => ⟨S32x2048x4x2x64, .f32⟩
  | .hbm, ⟨18, _⟩ => ⟨S32x2048x512, .f32⟩
  | .hbm, ⟨19, _⟩ => ⟨S32x2048x512, .bf16⟩
  | .hbm, ⟨20, _⟩ => ⟨S32x2048x2048, .f32⟩
  | .hbm, ⟨21, _⟩ => ⟨S32x2048x2048, .bf16⟩
  | .hbm, ⟨22, _⟩ => ⟨S32x2048x512, .bf16⟩
  | .hbm, ⟨23, _⟩ => ⟨S32x6x1024, .f32⟩
  | .hbm, ⟨24, _⟩ => ⟨S1x1024, .f32⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .hbm, ⟨31, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S32x2048x1024 : Shape := ⟨3, ![32, 2048, 1024]⟩
abbrev S32x2048x512 : Shape := ⟨3, ![32, 2048, 512]⟩
abbrev S32x6144 : Shape := ⟨2, ![32, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S32x2048x1024, .f32⟩
  | .hbm, ⟨4, _⟩ => ⟨S32x2048x1024, .f32⟩
  | .hbm, ⟨5, _⟩ => ⟨S32x6144, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S32x1x6144, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S_, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S_, .f32⟩
  | .hbm, ⟨62, _⟩ => ⟨S32x1x1024, .f32⟩
  | .hbm, ⟨63, _⟩ => ⟨S32x1x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S32x2048x2816, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S_, .f32⟩
  | .hbm, ⟨75, _⟩ => ⟨S32x2048x2816, .f32⟩
  | .hbm, ⟨76, _⟩ => ⟨S32x2048x2816, .f32⟩
  | .hbm, ⟨77, _⟩ => ⟨S32x2048x2816, .f32⟩
  | .hbm, ⟨78, _⟩ => ⟨S32x2048x2816, .f32⟩
  | .hbm, ⟨79, _⟩ => ⟨S32x2048x2816, .f32⟩
  | .hbm, ⟨80, _⟩ => ⟨S32x2048x1024, .f32⟩
  | .hbm, ⟨81, _⟩ => ⟨S32x2048x1024, .f32⟩
  | .hbm, ⟨82, _⟩ => ⟨S32x2048x1024, .f32⟩
  | .hbm, ⟨83, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S1024 : Shape := ⟨1, ![1024]⟩
abbrev S1024x4576 : Shape := ⟨2, ![1024, 4576]⟩
abbrev S64 : Shape := ⟨1, ![64]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x24 : Shape := ⟨2, ![1024, 24]⟩
abbrev S1024x1024 : Shape := ⟨2, ![1024, 1024]⟩
abbrev S1024x4992 : Shape := ⟨2, ![1024, 4992]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1408 : Shape := ⟨1, ![1408]⟩
abbrev S1x1408 : Shape := ⟨2, ![1, 1408]⟩
abbrev S256x256 : Shape := ⟨2, ![256, 256]⟩
abbrev S32x6x1024 : Shape := ⟨3, ![32, 6, 1024]⟩
abbrev S1x1024 : Shape := ⟨2, ![1, 1024]⟩
abbrev S32x2048x512 : Shape := ⟨3, ![32, 2048, 512]⟩
abbrev S32x2x2048x128 : Shape := ⟨4, ![32, 2, 2048, 128]⟩
abbrev S32x2048x128 : Shape := ⟨3, ![32, 2048, 128]⟩
abbrev S32x2048x640 : Shape := ⟨3, ![32, 2048, 640]⟩
abbrev S32x2048x2048 : Shape := ⟨3, ![32, 2048, 2048]⟩
abbrev S1x512x1024 : Shape := ⟨3, ![1, 512, 1024]⟩
abbrev S1x6x1024 : Shape := ⟨3, ![1, 6, 1024]⟩
abbrev S1x512x512 : Shape := ⟨3, ![1, 512, 512]⟩
abbrev S1x2x512x128 : Shape := ⟨4, ![1, 2, 512, 128]⟩
abbrev S1x512x128 : Shape := ⟨3, ![1, 512, 128]⟩
abbrev S1x512x640 : Shape := ⟨3, ![1, 512, 640]⟩
abbrev S1x512x2048 : Shape := ⟨3, ![1, 512, 2048]⟩
abbrev S512x1024 : Shape := ⟨2, ![512, 1024]⟩
abbrev S6x1024 : Shape := ⟨2, ![6, 1024]⟩
abbrev S512x1 : Shape := ⟨2, ![512, 1]⟩
abbrev S512x128 : Shape := ⟨2, ![512, 128]⟩
abbrev S512x512 : Shape := ⟨2, ![512, 512]⟩
abbrev S512x256 : Shape := ⟨2, ![512, 256]⟩
abbrev S1x256 : Shape := ⟨2, ![1, 256]⟩
abbrev S1024x256 : Shape := ⟨2, ![1024, 256]⟩
abbrev S1x1x512x128 : Shape := ⟨4, ![1, 1, 512, 128]⟩
abbrev S128x128 : Shape := ⟨2, ![128, 128]⟩
abbrev S1x128 : Shape := ⟨2, ![1, 128]⟩

abbrev nBuf : Space → Nat
  | .hbm => 91
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x4576, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1024x512, .f32⟩
  | .hbm, ⟨10, _⟩ => ⟨S1024x2x4x64, .f32⟩
  | .hbm, ⟨11, _⟩ => ⟨S1024x4x2x64, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x512, .f32⟩
  | .hbm, ⟨20, _⟩ => ⟨S1024x64, .f32⟩
  | .hbm, ⟨21, _⟩ => ⟨S1024x128, .f32⟩
  | .hbm, ⟨22, _⟩ => ⟨S1024x64, .f32⟩
  | .hbm, ⟨23, _⟩ => ⟨S1024x128, .f32⟩
  | .hbm, ⟨24, _⟩ => ⟨S1024x64, .f32⟩
  | .hbm, ⟨25, _⟩ => ⟨S1024x128, .f32⟩
  | .hbm, ⟨26, _⟩ => ⟨S1024x8, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x24, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x1024, .f32⟩
  | .hbm, ⟨39, _⟩ => ⟨S1024x1024, .f32⟩
  | .hbm, ⟨40, _⟩ => ⟨S1024x4992, .f32⟩
  | .hbm, ⟨41, _⟩ => ⟨S1024x4992, .bf16⟩
  | .hbm, ⟨42, _⟩ => ⟨S1x64, .f32⟩
  | .hbm, ⟨43, _⟩ => ⟨S8x64, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1x64, .f32⟩
  | .hbm, ⟨52, _⟩ => ⟨S2x64, .f32⟩
  | .hbm, ⟨53, _⟩ => ⟨S128, .f32⟩
  | .hbm, ⟨54, _⟩ => ⟨S1x64, .f32⟩
  | .hbm, ⟨55, _⟩ => ⟨S8x64, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1408, .f32⟩
  | .hbm, ⟨64, _⟩ => ⟨S1x1408, .f32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S_, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S256x256, .bf16⟩
  | .hbm, ⟨80, _⟩ => ⟨S32x6x1024, .f32⟩
  | .hbm, ⟨81, _⟩ => ⟨S1x1024, .f32⟩
  | .hbm, ⟨82, _⟩ => ⟨S32x2048x512, .bf16⟩
  | .hbm, ⟨83, _⟩ => ⟨S32x2x2048x128, .f32⟩
  | .hbm, ⟨84, _⟩ => ⟨S32x2048x1024, .bf16⟩
  | .hbm, ⟨85, _⟩ => ⟨S32x2048x128, .f32⟩
  | .hbm, ⟨86, _⟩ => ⟨S32x2048x512, .bf16⟩
  | .hbm, ⟨87, _⟩ => ⟨S32x2048x640, .bf16⟩
  | .hbm, ⟨88, _⟩ => ⟨S32x2048x512, .bf16⟩
  | .hbm, ⟨89, _⟩ => ⟨S32x2048x128, .f32⟩
  | .hbm, ⟨90, _⟩ => ⟨S32x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4992, .bf16⟩
  | .local _ .vmem, ⟨6, _⟩ => ⟨S256x256, .bf16⟩
  | .local _ .vmem, ⟨7, _⟩ => ⟨S1x1408, .f32⟩
  | .local _ .vmem, ⟨8, _⟩ => ⟨S1x512x512, .bf16⟩
  | .local _ .vmem, ⟨9, _⟩ => ⟨S1x512x512, .bf16⟩
  | .local _ .vmem, ⟨10, _⟩ => ⟨S1x2x512x128, .f32⟩
  | .local _ .vmem, ⟨11, _⟩ => ⟨S1x2x512x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x640, .bf16⟩
  | .local _ .vmem, ⟨19, _⟩ => ⟨S1x512x640, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x128, .f32⟩
  | .local _ .vmem, ⟨23, _⟩ => ⟨S1x512x128, .f32⟩
  | .local _ .vmem, ⟨24, _⟩ => ⟨S1x512x2048, .bf16⟩
  | .local _ .vmem, ⟨25, _⟩ => ⟨S1x512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_4 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_v60_3 : Ref sig .tc := ⟨.hbm, 85, rfl⟩
abbrev main_v60_4 : Ref sig .tc := ⟨.hbm, 86, rfl⟩
abbrev main_v60_5 : Ref sig .tc := ⟨.hbm, 87, rfl⟩
abbrev main_v60_6 : Ref sig .tc := ⟨.hbm, 88, rfl⟩
abbrev main_v60_7 : Ref sig .tc := ⟨.hbm, 89, rfl⟩
abbrev main_v60_8 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4992 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S32x2048x1024 : Shape := ⟨3, ![32, 2048, 1024]⟩
abbrev S32x6144 : Shape := ⟨2, ![32, 6144]⟩
abbrev S1024 : Shape := ⟨1, ![1024]⟩
abbrev S1024x4576 : Shape := ⟨2, ![1024, 4576]⟩
abbrev S64 : Shape := ⟨1, ![64]⟩
abbrev S32x1024 : Shape := ⟨2, ![32, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4576 : Shape := ⟨3, ![32, 2048, 4576]⟩
abbrev S32x2048x512 : Shape := ⟨3, ![32, 2048, 512]⟩
abbrev S32x2048x256 : Shape := ⟨3, ![32, 2048, 256]⟩
abbrev S32x2048x128 : Shape := ⟨3, ![32, 2048, 128]⟩
abbrev S32x2048x24 : Shape := ⟨3, ![32, 2048, 24]⟩
abbrev S32x2048x64 : Shape := ⟨3, ![32, 2048, 64]⟩
abbrev S32x2048x8 : Shape := ⟨3, ![32, 2048, 8]⟩
abbrev S32x2048x2048 : Shape := ⟨3, ![32, 2048, 2048]⟩
abbrev S32x2048x8x64 : Shape := ⟨4, ![32, 2048, 8, 64]⟩
abbrev S32x2048x8x1 : Shape := ⟨4, ![32, 2048, 8, 1]⟩
abbrev S1x1x1x64 : Shape := ⟨4, ![1, 1, 1, 64]⟩
abbrev S32x2048x2x4x64 : Shape := ⟨5, ![32, 2048, 2, 4, 64]⟩
abbrev S32x2048x4x2x64 : Shape := ⟨5, ![32, 2048, 4, 2, 64]⟩
abbrev S32x2048x2x128 : Shape := ⟨4, ![32, 2048, 2, 128]⟩
abbrev S32x2x2048x128 : Shape := ⟨4, ![32, 2, 2048, 128]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x8x1x64 : Shape := ⟨5, ![32, 2048, 8, 1, 64]⟩
abbrev S32x2048x8x2x64 : Shape := ⟨5, ![32, 2048, 8, 2, 64]⟩
abbrev S32x2048x1x64 : Shape := ⟨4, ![32, 2048, 1, 64]⟩
abbrev S32x2048x1x1 : Shape := ⟨4, ![32, 2048, 1, 1]⟩
abbrev S32x2048x5x64 : Shape := ⟨4, ![32, 2048, 5, 64]⟩
abbrev S32x2048x5x1x64 : Shape := ⟨5, ![32, 2048, 5, 1, 64]⟩
abbrev S32x2048x5x2x64 : Shape := ⟨5, ![32, 2048, 5, 2, 64]⟩
abbrev S32x2048x640 : Shape := ⟨3, ![32, 2048, 640]⟩
abbrev S32x2048x104 : Shape := ⟨3, ![32, 2048, 104]⟩
abbrev S32x2048x120 : Shape := ⟨3, ![32, 2048, 120]⟩

abbrev nBuf : Space → Nat
  | .hbm => 178
  | .vmem => 0
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024x4576, .f32⟩
  | 4 => ⟨S64, .f32⟩
  | 5 => ⟨S64, .f32⟩
  | 6 => ⟨S64, .f32⟩
  | 7 => ⟨S64, .f32⟩
  | 8 => ⟨S64, .f32⟩
  | 9 => ⟨S32x1024, .f32⟩
  | 10 => ⟨S32x1x1024, .f32⟩
  | 11 => ⟨S32x1024, .f32⟩
  | 12 => ⟨S32x1x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x1024, .f32⟩
  | 25 => ⟨S32x2048x1024, .f32⟩
  | 26 => ⟨S1x1x1024, .f32⟩
  | 27 => ⟨S32x2048x1024, .f32⟩
  | 28 => ⟨S32x2048x1024, .f32⟩
  | 29 => ⟨S_, .f32⟩
  | 30 => ⟨S32x1x1024, .f32⟩
  | 31 => ⟨S32x1x1024, .f32⟩
  | 32 => ⟨S32x2048x1024, .f32⟩
  | 33 => ⟨S32x2048x1024, .f32⟩
  | 34 => ⟨S32x2048x1024, .f32⟩
  | 35 => ⟨S32x2048x1024, .f32⟩
  | 36 => ⟨S32x2048x4576, .f32⟩
  | 37 => ⟨S32x2048x512, .f32⟩
  | 38 => ⟨S32x2048x256, .f32⟩
  | 39 => ⟨S32x2048x128, .f32⟩
  | 40 => ⟨S32x2048x128, .f32⟩
  | 41 => ⟨S32x2048x128, .f32⟩
  | 42 => ⟨S32x2048x128, .f32⟩
  | 43 => ⟨S32x2048x24, .f32⟩
  | 44 => ⟨S32x2048x512, .f32⟩
  | 45 => ⟨S32x2048x64, .f32⟩
  | 46 => ⟨S32x2048x64, .f32⟩
  | 47 => ⟨S32x2048x512, .f32⟩
  | 48 => ⟨S32x2048x64, .f32⟩
  | 49 => ⟨S32x2048x8, .f32⟩
  | 50 => ⟨S32x2048x2048, .f32⟩
  | 51 => ⟨S32x2048x8x64, .f32⟩
  | 52 => ⟨S32x2048x8x64, .f32⟩
  | 53 => ⟨S_, .f32⟩
  | 54 => ⟨S32x2048x8, .f32⟩
  | 55 => ⟨S32x2048x8x1, .f32⟩
  | 56 => ⟨S_, .f32⟩
  | 57 => ⟨S32x2048x8x1, .f32⟩
  | 58 => ⟨S32x2048x8x1, .f32⟩
  | 59 => ⟨S_, .f32⟩
  | 60 => ⟨S32x2048x8x1, .f32⟩
  | 61 => ⟨S32x2048x8x1, .f32⟩
  | 62 => ⟨S32x2048x8x1, .f32⟩
  | 63 => ⟨S32x2048x8x64, .f32⟩
  | 64 => ⟨S32x2048x8x64, .f32⟩
  | 65 => ⟨S1x1x1x64, .f32⟩
  | 66 => ⟨S32x2048x8x64, .f32⟩
  | 67 => ⟨S32x2048x8x64, .f32⟩
  | 68 => ⟨S_, .f32⟩
  | 69 => ⟨S32x2048x8x64, .f32⟩
  | 70 => ⟨S32x2048x8x64, .f32⟩
  | 71 => ⟨S32x2048x8x64, .f32⟩
  | 72 => ⟨S32x2048x8x64, .f32⟩
  | 73 => ⟨S_, .f32⟩
  | 74 => ⟨S32x2048x8, .f32⟩
  | 75 => ⟨S32x2048x8x1, .f32⟩
  | 76 => ⟨S_, .f32⟩
  | 77 => ⟨S32x2048x8x1, .f32⟩
  | 78 => ⟨S32x2048x8x1, .f32⟩
  | 79 => ⟨S_, .f32⟩
  | 80 => ⟨S32x2048x8x1, .f32⟩
  | 81 => ⟨S32x2048x8x1, .f32⟩
  | 82 => ⟨S32x2048x8x1, .f32⟩
  | 83 => ⟨S32x2048x8x64, .f32⟩
  | 84 => ⟨S32x2048x8x64, .f32⟩
  | 85 => ⟨S1x1x1x64, .f32⟩
  | 86 => ⟨S32x2048x8x64, .f32⟩
  | 87 => ⟨S32x2048x8x64, .f32⟩
  | 88 => ⟨S_, .f32⟩
  | 89 => ⟨S32x2048x8x64, .f32⟩
  | 90 => ⟨S32x2048x8x64, .f32⟩
  | 91 => ⟨S_, .f32⟩
  | 92 => ⟨S32x2048x512, .f32⟩
  | 93 => ⟨S32x2048x512, .f32⟩
  | 94 => ⟨S_, .f32⟩
  | 95 => ⟨S32x2048x8, .f32⟩
  | 96 => ⟨S32x2048x8, .f32⟩
  | 97 => ⟨S32x2048x2x4x64, .f32⟩
  | 98 => ⟨S32x2048x4x2x64, .f32⟩
  | 99 => ⟨S32x2048x512, .f32⟩
  | 100 => ⟨S32x2048x2x128, .f32⟩
  | 101 => ⟨S32x2x2048x128, .f32⟩
  | 102 => ⟨S32x2048x2x64, .f32⟩
  | 103 => ⟨S32x2048x2x64, .f32⟩
  | 104 => ⟨S_, .f32⟩
  | 105 => ⟨S32x2048x2, .f32⟩
  | 106 => ⟨S32x2048x2x1, .f32⟩
  | 107 => ⟨S_, .f32⟩
  | 108 => ⟨S32x2048x2x1, .f32⟩
  | 109 => ⟨S32x2048x2x1, .f32⟩
  | 110 => ⟨S_, .f32⟩
  | 111 => ⟨S32x2048x2x1, .f32⟩
  | 112 => ⟨S32x2048x2x1, .f32⟩
  | 113 => ⟨S32x2048x2x1, .f32⟩
  | 114 => ⟨S32x2048x2x64, .f32⟩
  | 115 => ⟨S32x2048x2x64, .f32⟩
  | 116 => ⟨S1x1x1x64, .f32⟩
  | 117 => ⟨S32x2048x2x64, .f32⟩
  | 118 => ⟨S32x2048x2x64, .f32⟩
  | 119 => ⟨S32x2048x2x64, .f32⟩
  | 120 => ⟨S32x2048x2x64, .f32⟩
  | 121 => ⟨S32x2048x2x64, .f32⟩
  | 122 => ⟨S_, .f32⟩
  | 123 => ⟨S32x2048x2, .f32⟩
  | 124 => ⟨S32x2048x2x1, .f32⟩
  | 125 => ⟨S_, .f32⟩
  | 126 => ⟨S32x2048x2x1, .f32⟩
  | 127 => ⟨S32x2048x2x1, .f32⟩
  | _ => ⟨S32x2048x1024, .f32⟩

abbrev hbmTy0_1 (i : Nat) : BufTy := match i % 128 with
  | 0 => ⟨S_, .f32⟩
  | 1 => ⟨S32x2048x2x1, .f32⟩
  | 2 => ⟨S32x2048x2x1, .f32⟩
  | 3 => ⟨S32x2048x2x1, .f32⟩
  | 4 => ⟨S32x2048x2x64, .f32⟩
  | 5 => ⟨S32x2048x2x64, .f32⟩
  | 6 => ⟨S1x1x1x64, .f32⟩
  | 7 => ⟨S32x2048x2x64, .f32⟩
  | 8 => ⟨S32x2048x2x64, .f32⟩
  | 9 => ⟨S32x2048x2x64, .f32⟩
  | 10 => ⟨S32x2048x8x64, .f32⟩
  | 11 => ⟨S32x2048x8x1x64, .f32⟩
  | 12 => ⟨S32x2048x8x2x64, .f32⟩
  | 13 => ⟨S32x2048x1024, .f32⟩
  | 14 => ⟨S32x2048x1x64, .f32⟩
  | 15 => ⟨S32x2048x1x64, .f32⟩
  | 16 => ⟨S_, .f32⟩
  | 17 => ⟨S32x2048x1, .f32⟩
  | 18 => ⟨S32x2048x1x1, .f32⟩
  | 19 => ⟨S_, .f32⟩
  | 20 => ⟨S32x2048x1x1, .f32⟩
  | 21 => ⟨S32x2048x1x1, .f32⟩
  | 22 => ⟨S_, .f32⟩
  | 23 => ⟨S32x2048x1x1, .f32⟩
  | 24 => ⟨S32x2048x1x1, .f32⟩
  | 25 => ⟨S32x2048x1x1, .f32⟩
  | 26 => ⟨S32x2048x1x64, .f32⟩
  | 27 => ⟨S32x2048x1x64, .f32⟩
  | 28 => ⟨S1x1x1x64, .f32⟩
  | 29 => ⟨S32x2048x1x64, .f32⟩
  | 30 => ⟨S32x2048x1x64, .f32⟩
  | 31 => ⟨S32x2048x1x64, .f32⟩
  | 32 => ⟨S32x2048x1x64, .f32⟩
  | 33 => ⟨S32x2048x5x64, .f32⟩
  | 34 => ⟨S32x2048x5x1x64, .f32⟩
  | 35 => ⟨S32x2048x5x2x64, .f32⟩
  | 36 => ⟨S32x2048x640, .f32⟩
  | 37 => ⟨S_, .f32⟩
  | 38 => ⟨S32x2048x104, .f32⟩
  | 39 => ⟨S32x2048x128, .f32⟩
  | 40 => ⟨S_, .f32⟩
  | 41 => ⟨S32x2048x120, .f32⟩
  | 42 => ⟨S32x2048x128, .f32⟩
  | 43 => ⟨S32x2048x512, .bf16⟩
  | 44 => ⟨S32x2048x1024, .bf16⟩
  | 45 => ⟨S32x2048x512, .f32⟩
  | 46 => ⟨S32x2048x512, .bf16⟩
  | 47 => ⟨S32x2048x640, .bf16⟩
  | 48 => ⟨S32x2048x512, .bf16⟩
  | 49 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_16 : Ref sig .tc := ⟨.hbm, 122, rfl⟩
abbrev main_v96 : Ref sig .tc := ⟨.hbm, 123, rfl⟩
abbrev main_v97 : Ref sig .tc := ⟨.hbm, 124, rfl⟩
abbrev main_cst_17 : Ref sig .tc := ⟨.hbm, 125, rfl⟩
abbrev main_v98 : Ref sig .tc := ⟨.hbm, 126, rfl⟩
abbrev main_v99 : Ref sig .tc := ⟨.hbm, 127, rfl⟩
abbrev main_cst_18 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_19 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_22 : Ref sig .tc := ⟨.hbm, 165, rfl⟩
abbrev main_v133 : Ref sig .tc := ⟨.hbm, 166, rfl⟩
abbrev main_v134 : Ref sig .tc := ⟨.hbm, 167, rfl⟩
abbrev main_cst_23 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩

abbrev nD : Nat := 1
abbrev τ : Topo := Topo.v7x

variable {F : FTy → Type} [FloatOps F]
-- ==== Kernel3.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x512 : Shape := ⟨2, ![1024, 512]⟩
abbrev S1x512 : Shape := ⟨2, ![1, 512]⟩
abbrev S32x512 : Shape := ⟨2, ![32, 512]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S32x512, .f32⟩
  | .local _ .vmem, ⟨6, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.PostSpec.lean ====
/-
  The rows of the layer's last part, in plain sums over the extended reals: what both programs compute of one token.
-/
module

public import Idealize.ShloMosaic.Lib.Pointwise

@[expose] public section

noncomputable section

namespace Cert.PostSpec

open Idealize.ShloMosaic

/-- The logistic function `1 / (1 + e^(-x))`. -/
def sg (x : EReal) : EReal := Ideal.div 1 (1 + Ideal.exp (-x))

/-- The residual stream after the attention branch: `x + gate1 · ((σ(ga) · (oa · Woa) + σ(gb) · (ob · Wob)) · Wout)`. -/
def x1Row (x ga gb g1 : Fin 1024 → EReal) (oa ob : Fin 512 → EReal) (woa wob : Fin 512 → Fin 1024 → EReal)
    (wout : Fin 1024 → Fin 1024 → EReal) (c : Fin 1024) : EReal :=
  x c + g1 c * ∑ k, (sg (ga k) * (∑ j, oa j * woa j k) + sg (gb k) * (∑ j, ob j * wob j k)) * wout k c

/-- The modulated RMS norm of a row: `x · rsqrt(mean x² + ε) · g · (1 + scale) + shift`. -/
def h2Row (x g sc sh : Fin 1024 → EReal) (c : Fin 1024) : EReal :=
  x c * Ideal.rsqrt (Ideal.div (∑ k, x k * x k) (Ideal.ofBits FTy.f32 1149239296#32) + Ideal.ofBits FTy.f32 897988541#32)
    * g c * (1 + sc c) + sh c

/-- One hidden unit of the gated feed-forward layer, `silu(h · Wg) · (h · Wu)`. -/
def unit (h wg wu : Fin 1024 → EReal) : EReal :=
  (∑ j, h j * wg j) * sg (∑ j, h j * wg j) * ∑ j, h j * wu j

/-- The gated feed-forward layer of a row. -/
def ffRow (h : Fin 1024 → EReal) (wg wu : Fin 1024 → Fin 2816 → EReal) (wd : Fin 2816 → Fin 1024 → EReal)
    (c : Fin 1024) : EReal :=
  ∑ k, unit h (fun j => wg j k) (fun j => wu j k) * wd k c

/-- The layer's last part of one row: the residual after attention, then the gated feed-forward layer of its modulated
    norm. `g1`, `sh`, `sc`, `g2` are the row's gate of attention and the shift, scale and gate of the feed-forward layer. -/
def outRow (x ga gb g1 sh sc g2 g : Fin 1024 → EReal) (oa ob : Fin 512 → EReal) (woa wob : Fin 512 → Fin 1024 → EReal)
    (wout : Fin 1024 → Fin 1024 → EReal) (wg wu : Fin 1024 → Fin 2816 → EReal) (wd : Fin 2816 → Fin 1024 → EReal)
    (c : Fin 1024) : EReal :=
  x1Row x ga gb g1 oa ob woa wob wout c
    + g2 c * ffRow (h2Row (x1Row x ga gb g1 oa ob woa wob wout) g sc sh) wg wu wd c

/-- A sum over eleven, written out. -/
theorem sum_eleven (f : Fin 11 → EReal) :
    ∑ j, f j = 0 + f 0 + f 1 + f 2 + f 3 + f 4 + f 5 + f 6 + f 7 + f 8 + f 9 + f 10 := by
  simp only [Fin.sum_univ_castSucc, Fin.sum_univ_zero]; rfl

/-- `0 - x` is `-x`. -/
theorem zero_sub' (x : EReal) : 0 - x = -x := by simp

end Cert.PostSpec

end
-- ==== Proof.PostKernel.lean ====
/-
  What the kernel's body leaves in its output block, read at an index: the row functions of `PostSpec` of the blocks.
-/
module

public import proofs.«01_k».proof.Defs
public import proofs.«01_k».proof.Proof.Gen.KernelIdeal.Value
public import proofs.«01_k».proof.Proof.PostSpec
public import Idealize.ShloMosaic.Lib.Pipeline.ValueKit

@[expose] public section

set_option maxRecDepth 16384

noncomputable section

namespace Cert.KernelIdeal.PostValue

open Cert.KernelIdeal Cert.KernelIdeal.Gen Cert.PostSpec
open Idealize.ShloMosaic Idealize.ShloMosaic.TcCoe Idealize.SL.Sem
open Idealize.ShloMosaic.Pipeline (Dat)

/-- The first residual of a block: the kernel's term at row `r`, column `cc`. -/
theorem x1_apply (w4 : Vec Ideal S1x6x1024 .f32) (g3a g3b : Vec Ideal S1x512x1024 .bf16) (w1 w2 : Vec Ideal S1x512x512 .bf16)
    (w6 w7 : Vec Ideal S512x1024 .bf16) (w0 : Vec Ideal S1x512x1024 .f32) (w8 : Vec Ideal S1024x1024 .bf16)
    (r : Fin 512) (cc : Fin 1024) :
    (k0_pay11 (k0_pay4 w4) (k0_pay8 g3b) (k0_pay9 g3a w1 w6) (k0_pay10 w2) w7 w0 w8 : FVec Ideal S512x1024 .f32) (ix2 r cc)
      = x1Row (fun k => w0 (ix3 0 r k)) (fun k => g3a (ix3 0 r k)) (fun k => g3b (ix3 0 r k)) (fun k => w4 (ix3 0 2 k))
          (fun j => w1 (ix3 0 r j)) (fun j => w2 (ix3 0 r j)) (fun j k => w6 (ix2 j k)) (fun j k => w7 (ix2 j k))
          (fun j k => w8 (ix2 j k)) cc := by
  pointwise [k0_pay11, k0_pay4, k0_pay3, k0_pay8, k0_pay9, k0_pay10]
  simp only [x1Row, sg, zero_sub']

/-- The normed and modulated row of a block, over the first residual. -/
theorem h2_apply (w4 : Vec Ideal S1x6x1024 .f32) (v25 v31 : FVec Ideal S512x1024 .f32) (v33 : FVec Ideal S512x512 .bf16)
    (v34 : Vec Ideal S512x1024 .bf16) (v39 : Vec Ideal S1x512x1024 .f32) (v42 : Vec Ideal S1024x1024 .bf16)
    (v58 : Vec Ideal S1x1024 .f32) (r : Fin 512) (cc : Fin 1024) :
    (k0_pay12 (k0_pay4 w4) (k0_pay5 w4) (k0_pay6 w4) v25 v31 v33 v34 v39 v42 v58 : FVec Ideal S512x1024 .bf16) (ix2 r cc)
      = h2Row (fun k => (k0_pay11 (k0_pay4 w4) v25 v31 v33 v34 v39 v42 : FVec Ideal S512x1024 .f32) (ix2 r k))
          (fun k => v58 (ix2 0 k)) (fun k => w4 (ix3 0 4 k)) (fun k => w4 (ix3 0 3 k)) cc := by
  generalize hp : (k0_pay4 w4 : FVec Ideal S1x1024 .f32) = p
  pointwise [k0_pay12, k0_pay5, k0_pay6, k0_pay3]
  simp only [h2Row]

/-- What one chunk of 256 hidden units adds at row `r`, column `cc`. -/
def chunk (H : FVec Ideal S512x1024 .bf16) (wg wu : Vec Ideal S1024x256 .bf16) (wd : Vec Ideal S256x1024 .bf16)
    (r : Fin 512) (cc : Fin 1024) : EReal :=
  ∑ k, unit (fun j => H (ix2 r j)) (fun j => wg (ix2 j k)) (fun j => wu (ix2 j k)) * wd (ix2 k cc)

section
variable (H : FVec Ideal S512x1024 .bf16) (wg wu : Vec Ideal S1024x256 .bf16) (wd : Vec Ideal S256x1024 .bf16)
  (acc : Vec Ideal S512x1024 .f32) (r : Fin 512) (cc : Fin 1024)

/-- The accumulator starts from zero. -/
theorem start : (k0_pay13 : FVec Ideal S512x1024 .f32) (ix2 r cc) = 0 := by
  pointwise [k0_pay13]
/-- Chunk 0. -/
theorem chunk0 : (k0_pay14 H wg wu acc wd : FVec Ideal S512x1024 .f32) (ix2 r cc) = acc (ix2 r cc) + chunk H wg wu wd r cc := by
  pointwise [k0_pay14]
  simp only [chunk, unit, sg, zero_sub']
/-- Chunk 1. -/
theorem chunk1 : (k0_pay19 (k0_pay15 H wg) (k0_pay16 H wu) (k0_pay17 H wg) k0_pay18 acc wd : FVec Ideal S512x1024 .f32) (ix2 r cc)
    = acc (ix2 r cc) + chunk H wg wu wd r cc := by
  pointwise [k0_pay19, k0_pay15, k0_pay16, k0_pay17, k0_pay18]
  simp only [chunk, unit, sg, zero_sub']
/-- Chunk 2. -/
theorem chunk2 : (k0_pay20 H wg wu acc wd : FVec Ideal S512x1024 .f32) (ix2 r cc) = acc (ix2 r cc) + chunk H wg wu wd r cc := by
  pointwise [k0_pay20]
  simp only [chunk, unit, sg, zero_sub']
/-- Chunk 3. -/
theorem chunk3 : (k0_pay21 H wg wu acc wd : FVec Ideal S512x1024 .f32) (ix2 r cc) = acc (ix2 r cc) + chunk H wg wu wd r cc := by
  pointwise [k0_pay21]
  simp only [chunk, unit, sg, zero_sub']
/-- Chunk 4. -/
theorem chunk4 : (k0_pay26 (k0_pay22 H wg) (k0_pay23 H wu) (k0_pay24 H wg) k0_pay25 acc wd : FVec Ideal S512x1024 .f32) (ix2 r cc)
    = acc (ix2 r cc) + chunk H wg wu wd r cc := by
  pointwise [k0_pay26, k0_pay22, k0_pay23, k0_pay24, k0_pay25]
  simp only [chunk, unit, sg, zero_sub']
/-- Chunk 5. -/
theorem chunk5 : (k0_pay28 (k0_pay27 H wg wu acc wd) : FVec Ideal S512x1024 .f32) (ix2 r cc)
    = acc (ix2 r cc) + chunk H wg wu wd r cc := by
  pointwise [k0_pay28, k0_pay27]
  simp only [chunk, unit, sg, zero_sub']
/-- Chunk 6. -/
theorem chunk6 : (k0_pay29 H wg wu acc wd : FVec Ideal S512x1024 .f32) (ix2 r cc) = acc (ix2 r cc) + chunk H wg wu wd r cc := by
  pointwise [k0_pay29]
  simp only [chunk, unit, sg, zero_sub']
/-- Chunk 7. -/
theorem chunk7 : (k0_pay33 (k0_pay30 H wg) (k0_pay31 H wu) (k0_pay32 H wg) acc wd : FVec Ideal S512x1024 .f32) (ix2 r cc)
    = acc (ix2 r cc) + chunk H wg wu wd r cc := by
  pointwise [k0_pay33, k0_pay30, k0_pay31, k0_pay32]
  simp only [chunk, unit, sg, zero_sub']
/-- Chunk 8. -/
theorem chunk8 : (k0_pay35 acc (k0_pay34 H wg wu wd) : FVec Ideal S512x1024 .f32) (ix2 r cc)
    = acc (ix2 r cc) + chunk H wg wu wd r cc := by
  pointwise [k0_pay35, k0_pay34]
  simp only [chunk, unit, sg, zero_sub']
/-- Chunk 9. -/
theorem chunk9 : (k0_pay36 H wg wu acc wd : FVec Ideal S512x1024 .f32) (ix2 r cc) = acc (ix2 r cc) + chunk H wg wu wd r cc := by
  pointwise [k0_pay36]
  simp only [chunk, unit, sg, zero_sub']
/-- Chunk 10. -/
theorem chunk10 : (k0_pay1 (k0_pay37 H wg) (k0_pay38 H wu) acc wd : FVec Ideal S512x1024 .f32) (ix2 r cc)
    = acc (ix2 r cc) + chunk H wg wu wd r cc := by
  pointwise [k0_pay1, k0_pay37, k0_pay38]
  simp only [chunk, unit, sg, zero_sub']
end

/-- The last residual. -/
theorem out_apply (w4 : Vec Ideal S1x6x1024 .f32) (X acc : Vec Ideal S512x1024 .f32) (r : Fin 512) (cc : Fin 1024) :
    (k0_pay2 (k0_pay7 w4) X acc : FVec Ideal S1x512x1024 .f32) (ix3 0 r cc)
      = X (ix2 r cc) + w4 (ix3 0 5 cc) * acc (ix2 r cc) := by
  pointwise [k0_pay2, k0_pay7, k0_pay3]

/-- A chunk of the columns (rows) of the staged weights, named by its first unit. -/
theorem chunk_of (h : Fin 1024 → EReal) (W9 W10 : S1024x2816.Idx → EReal) (W11 : S2816x1024.Idx → EReal) (cc : Fin 1024) :
    ffRow h (fun j k => W9 (ix2 j k)) (fun j k => W10 (ix2 j k)) (fun k c => W11 (ix2 k c)) cc
      = ∑ j : Fin 11, ∑ t : Fin 256, unit h (fun i => W9 (ix2 i ⟨j.val * 256 + t.val, by omega⟩))
          (fun i => W10 (ix2 i ⟨j.val * 256 + t.val, by omega⟩)) * W11 (ix2 ⟨j.val * 256 + t.val, by omega⟩ cc) := by
  unfold ffRow
  rw [Fin.sum_univ_tiles 11 256 rfl]

variable (m : (ℓ : Loc nD τ sig) → Buf (Elt Ideal) ℓ)

/-- The output block at row `r`, column `cc`, in terms of the staged blocks. -/
theorem block_apply (c : Dev nD) (t : Fin cfg0.N) (r : Fin 512) (cc : Fin 1024) :
    outsAt0 m c t (ix3 0 r cc) =
      outRow (fun k => iblk m c 0 t (ix3 0 r k)) (fun k => iblk m c 3 t (ix3 0 r ⟨k.val, by omega⟩))
        (fun k => iblk m c 3 t (ix3 0 r ⟨1024 + k.val, by omega⟩))
        (fun k => iblk m c 4 t (ix3 0 2 k)) (fun k => iblk m c 4 t (ix3 0 3 k)) (fun k => iblk m c 4 t (ix3 0 4 k))
        (fun k => iblk m c 4 t (ix3 0 5 k)) (fun k => iblk m c 5 t (ix2 0 k))
        (fun j => iblk m c 1 t (ix3 0 r j)) (fun j => iblk m c 2 t (ix3 0 r j))
        (fun j k => iblk m c 6 t (ix2 j k)) (fun j k => iblk m c 7 t (ix2 j k)) (fun j k => iblk m c 8 t (ix2 j k))
        (fun j k => iblk m c 9 t (ix2 j k)) (fun j k => iblk m c 10 t (ix2 j k)) (fun j k => iblk m c 11 t (ix2 j k)) cc := by
  unfold outsAt0
  frame_out
  rw [out_apply]
  rw [chunk10, chunk9, chunk8, chunk7, chunk6, chunk5, chunk4, chunk3, chunk2, chunk1, chunk0, start]
  unfold outRow
  rw [chunk_of]
  generalize iblk m c 9 t = W9
  generalize iblk m c 10 t = W10
  generalize iblk m c 11 t = W11
  simp only [chunk, h2_apply, x1_apply]
  rw [sum_eleven]
  pointwise
end Cert.KernelIdeal.PostValue

end
-- ==== Proof.PostReference.lean ====
/-
  The reference's result, read at an index: the row functions of `PostSpec` of the arguments.
-/
module

public import proofs.«01_k».proof.Defs
public import proofs.«01_k».proof.Proof.Gen.ReferenceIdeal.Run
public import proofs.«01_k».proof.Proof.PostSpec

@[expose] public section

set_option maxRecDepth 16384

noncomputable section

namespace Cert.ReferenceIdeal.PostValue

open Cert.ReferenceIdeal Cert.ReferenceIdeal.Gen Cert.PostSpec
open Idealize.ShloMosaic Idealize.ShloMosaic.TcCoe Idealize.SL.Sem

section
variable (a0 : FVec Ideal S32x2048x1024 .f32) (a1 a2 : FVec Ideal S32x2048x512 .f32) (a3 a4 : FVec Ideal S32x2048x1024 .f32)
  (a5 : FVec Ideal S32x6144 .f32) (a6 : FVec Ideal S1024 .f32) (a7 a8 : FVec Ideal S512x1024 .f32) (a9 : FVec Ideal S1024x1024 .f32)
  (a10 a11 : FVec Ideal S1024x2816 .f32) (a12 : FVec Ideal S2816x1024 .f32)

/-- `σ(x)` as the reference writes it. -/
def refSig (x : FVec Ideal S32x2048x1024 .f32) : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf x)))

/-- The residual after attention as the reference writes it. -/
def refX1 : FVec Ideal S32x2048x1024 .f32 :=
  addf a0 (mulf (broadcastInDim S32x2048x1024 ![0, 1, 2] bcast_S32x1x1024_S32x2048x1024_0_1_2
      (extractStridedSlice S32x1x1024 ![0, 0, 2048] (broadcastInDim S32x1x6144 ![0, 2] bcast_S32x6144_S32x1x6144_0_2 a5) slices_S32x1x6144_S32x1x1024_0_0_2048))
    (Host.dotGeneral dot_S32x2048x1024_S1024x1024_S32x2048x1024_2_0_01_1_n_n none
      (addf (mulf (refSig a3) (Host.dotGeneral dot_S32x2048x512_S512x1024_S32x2048x1024_2_0_01_1_n_n none a1 a7))
        (mulf (refSig a4) (Host.dotGeneral dot_S32x2048x512_S512x1024_S32x2048x1024_2_0_01_1_n_n none a2 a8))) a9))

/-- The modulated norm as the reference writes it. -/
def refH2 (x1 : FVec Ideal S32x2048x1024 .f32) : FVec Ideal S32x2048x1024 .f32 :=
  addf (mulf (mulf (mulf x1 (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x1 x1) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 a6)))
      (broadcastInDim S32x2048x1024 ![0, 1, 2] bcast_S32x1x1024_S32x2048x1024_0_1_2
        (addf (broadcastInDim S32x1x1024 ![] bcast_S_S32x1x1024 (constant S_ .f32 0x3F800000#32))
          (extractStridedSlice S32x1x1024 ![0, 0, 4096] (broadcastInDim S32x1x6144 ![0, 2] bcast_S32x6144_S32x1x6144_0_2 a5) slices_S32x1x6144_S32x1x1024_0_0_4096))))
    (broadcastInDim S32x2048x1024 ![0, 1, 2] bcast_S32x1x1024_S32x2048x1024_0_1_2
      (extractStridedSlice S32x1x1024 ![0, 0, 3072] (broadcastInDim S32x1x6144 ![0, 2] bcast_S32x6144_S32x1x6144_0_2 a5) slices_S32x1x6144_S32x1x1024_0_0_3072))

/-- A hidden pre-activation as the reference writes it. -/
def refG (h : FVec Ideal S32x2048x1024 .f32) (w : FVec Ideal S1024x2816 .f32) : FVec Ideal S32x2048x2816 .f32 :=
  Host.dotGeneral dot_S32x2048x1024_S1024x2816_S32x2048x2816_2_0_01_1_n_n none h w

/-- The result over the first residual and the two pre-activations. -/
def refOut (x1 : FVec Ideal S32x2048x1024 .f32) (g u : FVec Ideal S32x2048x2816 .f32) : FVec Ideal S32x2048x1024 .f32 :=
  addf x1 (mulf (broadcastInDim S32x2048x1024 ![0, 1, 2] bcast_S32x1x1024_S32x2048x1024_0_1_2
      (extractStridedSlice S32x1x1024 ![0, 0, 5120] (broadcastInDim S32x1x6144 ![0, 2] bcast_S32x6144_S32x1x6144_0_2 a5) slices_S32x1x6144_S32x1x1024_0_0_5120))
    (Host.dotGeneral dot_S32x2048x2816_S2816x1024_S32x2048x1024_2_0_01_1_n_n none
      (mulf (mulf g (Host.divf (broadcastInDim S32x2048x2816 ![] bcast_S_S32x2048x2816 (constant S_ .f32 0x3F800000#32))
        (addf (broadcastInDim S32x2048x2816 ![] bcast_S_S32x2048x2816 (constant S_ .f32 0x3F800000#32)) (Host.exp (Host.negf g))))) u) a12))

/-- The reference's whole term. -/
def REF : FVec Ideal S32x2048x1024 .f32 :=
  refOut a5 a12 (refX1 a0 a1 a2 a3 a4 a5 a7 a8 a9)
    (refG (refH2 a5 a6 (refX1 a0 a1 a2 a3 a4 a5 a7 a8 a9)) a10) (refG (refH2 a5 a6 (refX1 a0 a1 a2 a3 a4 a5 a7 a8 a9)) a11)

/-- The residual after attention at an index. -/
theorem refX1_apply (b : Fin 32) (s : Fin 2048) (cc : Fin 1024) :
    refX1 a0 a1 a2 a3 a4 a5 a7 a8 a9 (ix3 b s cc)
      = x1Row (fun k => a0 (ix3 b s k)) (fun k => a3 (ix3 b s k)) (fun k => a4 (ix3 b s k))
          (fun k => a5 (ix2 b ⟨2048 + k.val, by omega⟩)) (fun j => a1 (ix3 b s j)) (fun j => a2 (ix3 b s j))
          (fun j k => a7 (ix2 j k)) (fun j k => a8 (ix2 j k)) (fun j k => a9 (ix2 j k)) cc := by
  pointwise [refX1, refSig]
  simp only [x1Row, sg]

/-- The modulated norm at an index. -/
theorem refH2_apply (x1 : FVec Ideal S32x2048x1024 .f32) (b : Fin 32) (s : Fin 2048) (cc : Fin 1024) :
    refH2 a5 a6 x1 (ix3 b s cc)
      = h2Row (fun k => x1 (ix3 b s k)) (fun k => a6 (ix1 k)) (fun k => a5 (ix2 b ⟨4096 + k.val, by omega⟩))
          (fun k => a5 (ix2 b ⟨3072 + k.val, by omega⟩)) cc := by
  pointwise [refH2]
  simp only [h2Row]

/-- A pre-activation at an index. -/
theorem refG_apply (h : FVec Ideal S32x2048x1024 .f32) (w : FVec Ideal S1024x2816 .f32) (b : Fin 32) (s : Fin 2048) (k : Fin 2816) :
    refG h w (ix3 b s k) = ∑ j, h (ix3 b s j) * w (ix2 j k) := by
  pointwise [refG]

/-- The result at an index. -/
theorem refOut_apply (x1 : FVec Ideal S32x2048x1024 .f32) (g u : FVec Ideal S32x2048x2816 .f32) (b : Fin 32) (s : Fin 2048) (cc : Fin 1024) :
    refOut a5 a12 x1 g u (ix3 b s cc)
      = x1 (ix3 b s cc) + a5 (ix2 b ⟨5120 + cc.val, by omega⟩)
          * ∑ k, (g (ix3 b s k) * sg (g (ix3 b s k)) * u (ix3 b s k)) * a12 (ix2 k cc) := by
  pointwise [refOut]
  simp only [sg]

/-- The reference's result at batch `b`, token `s`, column `cc`. -/
theorem REF_apply (b : Fin 32) (s : Fin 2048) (cc : Fin 1024) :
    REF a0 a1 a2 a3 a4 a5 a6 a7 a8 a9 a10 a11 a12 (ix3 b s cc)
      = outRow (fun k => a0 (ix3 b s k)) (fun k => a3 (ix3 b s k)) (fun k => a4 (ix3 b s k))
          (fun k => a5 (ix2 b ⟨2048 + k.val, by omega⟩)) (fun k => a5 (ix2 b ⟨3072 + k.val, by omega⟩))
          (fun k => a5 (ix2 b ⟨4096 + k.val, by omega⟩)) (fun k => a5 (ix2 b ⟨5120 + k.val, by omega⟩)) (fun k => a6 (ix1 k))
          (fun j => a1 (ix3 b s j)) (fun j => a2 (ix3 b s j)) (fun j k => a7 (ix2 j k)) (fun j k => a8 (ix2 j k))
          (fun j k => a9 (ix2 j k)) (fun j k => a10 (ix2 j k)) (fun j k => a11 (ix2 j k)) (fun j k => a12 (ix2 j k)) cc := by
  unfold REF outRow ffRow unit
  simp only [refOut_apply, refG_apply, refH2_apply, refX1_apply]
end

set_option maxHeartbeats 4000000 in
/-- The run's term is `REF` of the arguments. -/
theorem res_eq (m : (ℓ : Loc nD τ sig) → Buf (Elt Ideal) ℓ) (c : Dev nD) :
    Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := by
  unfold Value.res_out0 Value.res_main_v54 REF refOut refG refH2 refX1 refSig
  rfl

end Cert.ReferenceIdeal.PostValue

end
-- ==== Proof.PostReads.lean ====
/-
  The staged blocks of the kernel, read as the arguments; the permutation of the head columns.
-/
module

public import proofs.«01_k».proof.Proof.PostKernel
public import proofs.«01_k».proof.Proof.PostReference

@[expose] public section

set_option maxRecDepth 16384

noncomputable section

namespace Cert.KernelIdeal.PostValue

open Cert.KernelIdeal Cert.KernelIdeal.Gen Cert.PostSpec
open Idealize.ShloMosaic Idealize.ShloMosaic.TcCoe Idealize.SL.Sem
open Idealize.ShloMosaic.Pipeline (Dat)

variable (m : (ℓ : Loc nD τ sig) → Buf (Elt Ideal) ℓ)

/-- Every window's block index at grid point `t`: batch `t / 4`, tile of 512 tokens `t % 4`. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 4, t.val % 4, 0] ∧ t.val / 4 < 32 :=
  (by decide +kernel : ∀ t : Fin grid0.N, _)

/-- The batch element of point `t`. -/
def bt (t : Fin cfg0.N) : Fin 32 := ⟨t.val / 4, by have := (idx t); omega⟩
/-- The token of row `r` of point `t`. -/
def row (t : Fin cfg0.N) (r : Fin 512) : Fin 2048 := ⟨t.val % 4 * 512 + r.val, by omega⟩

section
variable (c : Dev nD) (t : Fin cfg0.N) (r : Fin 512)

/-- The block of the residual stream: rows of tokens. -/
theorem rd0 (k : Fin 1024) : iblk m c 0 t (ix3 0 r k) = m ((c.tc : Thread nD τ).loc main_arg0) (ix3 (bt t) (row t r) k) := by
  unfold bt row; blk_ext [iblk, V, idx t]
/-- The block of the first attention output, of the array the host code lays out. -/
theorem rd1 (j : Fin 512) : iblk m c 1 t (ix3 0 r j) = V m c main_v6 (ix3 (bt t) (row t r) j) := by
  unfold bt row; blk_ext [iblk, idx t]
/-- The block of the second attention output. -/
theorem rd2 (j : Fin 512) : iblk m c 2 t (ix3 0 r j) = m ((c.tc : Thread nD τ).loc main_arg2) (ix3 (bt t) (row t r) j) := by
  unfold bt row; blk_point [iblk, V, idx t]
/-- The block of the gates, of the array the host code joins. -/
theorem rd3 (k : Fin 2048) : iblk m c 3 t (ix3 0 r k) = V m c main_v8 (ix3 (bt t) (row t r) k) := by
  unfold bt row; blk_ext [iblk, idx t]
/-- The modulation's third part, the first gate. -/
theorem rd4a (k : Fin 1024) : iblk m c 4 t (ix3 0 2 k) = m ((c.tc : Thread nD τ).loc main_arg5) (ix2 (bt t) ⟨2048 + k.val, by omega⟩) := by
  unfold bt; blk_point [iblk, V, idx t]
/-- Its fourth part, the second shift. -/
theorem rd4b (k : Fin 1024) : iblk m c 4 t (ix3 0 3 k) = m ((c.tc : Thread nD τ).loc main_arg5) (ix2 (bt t) ⟨3072 + k.val, by omega⟩) := by
  unfold bt; blk_point [iblk, V, idx t]
/-- Its fifth part, the second scale. -/
theorem rd4c (k : Fin 1024) : iblk m c 4 t (ix3 0 4 k) = m ((c.tc : Thread nD τ).loc main_arg5) (ix2 (bt t) ⟨4096 + k.val, by omega⟩) := by
  unfold bt; blk_point [iblk, V, idx t]
/-- Its sixth part, the second gate. -/
theorem rd4d (k : Fin 1024) : iblk m c 4 t (ix3 0 5 k) = m ((c.tc : Thread nD τ).loc main_arg5) (ix2 (bt t) ⟨5120 + k.val, by omega⟩) := by
  unfold bt; blk_point [iblk, V, idx t]
/-- The second norm's gain. -/
theorem rd5 (k : Fin 1024) : iblk m c 5 t (ix2 0 k) = m ((c.tc : Thread nD τ).loc main_arg6) (ix1 k) := by
  blk_point [iblk, V, idx t]
/-- The first attention output's weights, as the host code permutes them. -/
theorem rd6 (j : Fin 512) (k : Fin 1024) : iblk m c 6 t (ix2 j k) = V m c main_v12 (ix2 j k) := by
  blk_ext [iblk, idx t]
/-- The second attention output's weights. -/
theorem rd7 (j : Fin 512) (k : Fin 1024) : iblk m c 7 t (ix2 j k) = m ((c.tc : Thread nD τ).loc main_arg8) (ix2 j k) := by
  blk_point [iblk, V, idx t]
/-- The output projection's weights. -/
theorem rd8 (j k : Fin 1024) : iblk m c 8 t (ix2 j k) = m ((c.tc : Thread nD τ).loc main_arg9) (ix2 j k) := by
  blk_point [iblk, V, idx t]
/-- The feed-forward gate's weights. -/
theorem rd9 (j : Fin 1024) (k : Fin 2816) : iblk m c 9 t (ix2 j k) = m ((c.tc : Thread nD τ).loc main_arg10) (ix2 j k) := by
  blk_point [iblk, V, idx t]
/-- The feed-forward layer's up weights. -/
theorem rd10 (j : Fin 1024) (k : Fin 2816) : iblk m c 10 t (ix2 j k) = m ((c.tc : Thread nD τ).loc main_arg11) (ix2 j k) := by
  blk_point [iblk, V, idx t]
/-- Its down weights. -/
theorem rd11 (j : Fin 2816) (k : Fin 1024) : iblk m c 11 t (ix2 j k) = m ((c.tc : Thread nD τ).loc main_arg12) (ix2 j k) := by
  blk_point [iblk, V, idx t]

/-- Column `j` of the permuted heads: head pair `j / 128`, group `j / 64 % 2`, component `j % 64`. -/
def perm (j : Fin 512) : Fin 512 := ⟨j.val / 64 % 2 * 256 + j.val / 128 * 64 + j.val % 64, by omega⟩
/-- The way back. -/
def back (j : Fin 512) : Fin 512 := ⟨j.val / 64 % 4 * 128 + j.val / 256 * 64 + j.val % 64, by omega⟩
/-- The permutation of the head columns. -/
def permEquiv : Fin 512 ≃ Fin 512 where
  toFun := perm
  invFun := back
  left_inv := by decide +kernel
  right_inv := by decide +kernel

/-- The laid-out first attention output at an index of the argument. -/
theorem v6_apply (b : Fin 32) (s : Fin 2048) (j : Fin 512) :
    V m c main_v6 (ix3 b s j) = m ((c.tc : Thread nD τ).loc main_arg1) (ix3 b s (perm j)) := by
  unfold perm
  entry_read
  pointwise
/-- The joined gates' left half is the first gate. -/
theorem v8_left (b : Fin 32) (s : Fin 2048) (k : Fin 1024) :
    V m c main_v8 (ix3 b s ⟨k.val, by omega⟩) = m ((c.tc : Thread nD τ).loc main_arg3) (ix3 b s k) := by
  entry_read
  pointwise
/-- Their right half is the second gate. -/
theorem v8_right (b : Fin 32) (s : Fin 2048) (k : Fin 1024) :
    V m c main_v8 (ix3 b s ⟨1024 + k.val, by omega⟩) = m ((c.tc : Thread nD τ).loc main_arg4) (ix3 b s k) := by
  entry_read
  pointwise
/-- The permuted weights at an index of the argument. -/
theorem v12_apply (j : Fin 512) (k : Fin 1024) :
    V m c main_v12 (ix2 j k) = m ((c.tc : Thread nD τ).loc main_arg7) (ix2 (perm j) k) := by
  unfold perm
  entry_read
  pointwise

/-- The permuted first attention operand, from the argument. -/
theorem rd1' (j : Fin 512) : iblk m c 1 t (ix3 0 r j) = m ((c.tc : Thread nD τ).loc main_arg1) (ix3 (bt t) (row t r) (perm j)) :=
  (rd1 m c t r j).trans (v6_apply m c _ _ _)
/-- The first half of the gates. -/
theorem rd3a (k : Fin 1024) : iblk m c 3 t (ix3 0 r ⟨k.val, by omega⟩) = m ((c.tc : Thread nD τ).loc main_arg3) (ix3 (bt t) (row t r) k) :=
  (rd3 m c t r _).trans (v8_left m c _ _ _)
/-- The second half of the gates. -/
theorem rd3b (k : Fin 1024) : iblk m c 3 t (ix3 0 r ⟨1024 + k.val, by omega⟩) = m ((c.tc : Thread nD τ).loc main_arg4) (ix3 (bt t) (row t r) k) :=
  (rd3 m c t r _).trans (v8_right m c _ _ _)
/-- The permuted first projection, from the argument. -/
theorem rd6' (j : Fin 512) (k : Fin 1024) : iblk m c 6 t (ix2 j k) = m ((c.tc : Thread nD τ).loc main_arg7) (ix2 (perm j) k) :=
  (rd6 m c t j k).trans (v12_apply m c _ _)

end

/-- A row is the same when the two attention operands are permuted alike. -/
theorem x1Row_perm (x ga gb g1 : Fin 1024 → EReal) (oa ob : Fin 512 → EReal) (woa wob : Fin 512 → Fin 1024 → EReal)
    (wout : Fin 1024 → Fin 1024 → EReal) :
    x1Row x ga gb g1 (fun j => oa (perm j)) ob (fun j k => woa (perm j) k) wob wout = x1Row x ga gb g1 oa ob woa wob wout := by
  funext c
  unfold x1Row
  have h : ∀ k, ∑ j, oa (perm j) * woa (perm j) k = ∑ j, oa j * woa j k := fun k =>
    Equiv.sum_comp permEquiv (fun j => oa j * woa j k)
  simp only [h]

end Cert.KernelIdeal.PostValue

end
-- ==== Proof.PostFinal.lean ====
/-
  The kernel's result array after the run is the reference's term of the same arguments.
-/
module

public import proofs.«01_k».proof.Proof.PostReads
public import proofs.«01_k».proof.Proof.PostReference

@[expose] public section

set_option maxRecDepth 16384

noncomputable section

namespace Cert.KernelIdeal.PostValue

open Cert.KernelIdeal Cert.KernelIdeal.Gen Cert.PostSpec
open Idealize.ShloMosaic Idealize.ShloMosaic.TcCoe Idealize.SL.Sem
open Idealize.ShloMosaic.Pipeline (Dat)

variable (m : (ℓ : Loc nD τ sig) → Buf (Elt Ideal) ℓ)

/-- What the body leaves at row `r`, column `cc` of point `t`'s block is the reference's term at the array index. -/
theorem block_global (c : Dev nD) (t : Fin cfg0.N) (r : Fin 512) (cc : Fin 1024) : outsAt0 m c t (ix3 0 r cc)
    = Cert.ReferenceIdeal.PostValue.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (ix3 (bt t) (row t r) cc) := by
  rw [Cert.ReferenceIdeal.PostValue.REF_apply, block_apply]
  simp only [rd0, rd1', rd2, rd3a, rd3b, rd4a, rd4b, rd4c, rd4d, rd5, rd6', rd7, rd8, rd9, rd10, rd11]
  unfold outRow
  have e := fun x ga gb g1 ob wob wout => x1Row_perm x ga gb g1
    (fun j => m ((c.tc : Thread nD τ).loc main_arg1) (ix3 (bt t) (row t r) j)) ob
    (fun j k => m ((c.tc : Thread nD τ).loc main_arg7) (ix2 j k)) wob wout
  beta_reduce at e
  rw [e]

/-- The kernel's result array after the run. -/
theorem final (c : Dev nD) : (dats m 0 c).arrAt 12 (cfgs 0).N
    = Cert.ReferenceIdeal.PostValue.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := by
  refine (dats m 0 c).arrAt_eq_of_covers 12 _ (by decide +kernel) fun t hf y => ?_
  blk_simp
  rw [after0_12]
  have hemb : (win0_12.blk t).view.emb y = ix3 (bt t) (row t (y 1)) (y 2) := by
    unfold bt row; blk_ext [idx t]
  have hy : y = ix3 0 (y 1) (y 2) := by blk_ext
  rw [hemb]
  exact (congrArg (outsAt0 m c t) hy).trans (block_global m c t (y 1) (y 2))

end Cert.KernelIdeal.PostValue

end
-- ==== Proof.InSpec.lean ====
/-
  What the input projection computes of one token: dot products of the modulated norm with a column, and the RMS norm of a
  head of 64 of them; and the two laws of sums it rests on.
-/
module

public import Idealize.ShloMosaic.Lib.Pointwise
public import proofs.«01_k».proof.Proof.PostSpec

@[expose] public section

noncomputable section

namespace Cert.InSpec

open Idealize.ShloMosaic

/-- The dot product of a row with a column. -/
def dotRow (h w : Fin 1024 → EReal) : EReal := ∑ k, h k * w k

/-- Component `d` of the RMS norm of a head `p` of 64, times the gain `g`. -/
def headNorm (p : Fin 64 → EReal) (d : Fin 64) (g : EReal) : EReal :=
  p d * Ideal.rsqrt (Ideal.div (∑ j, p j * p j) (Ideal.ofBits FTy.f32 0x42800000#32) + Ideal.ofBits FTy.f32 0x358637BD#32) * g

/-- One eighth. -/
theorem eighth : Ideal.ofBits .f32 0x3E000000#32 = (((1 : ℝ) / 8 : ℝ) : EReal) := by
  simp [Ideal.ofBits, Ideal.ieee, -EReal.coe_mul]; norm_num
/-- One sixty-fourth. -/
theorem sixtyFourth : Ideal.ofBits .f32 0x3C800000#32 = (((1 : ℝ) / 64 : ℝ) : EReal) := by
  simp [Ideal.ofBits, Ideal.ieee, -EReal.coe_mul]; norm_num
/-- Sixty-four. -/
theorem sixtyFour : Ideal.ofBits .f32 0x42800000#32 = ((64 : ℝ) : EReal) := by
  simp [Ideal.ofBits, Ideal.ieee, -EReal.coe_mul]; norm_num

/-- A nonnegative real factor may be taken out of a sum. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- One eighth may be taken out of a dot product's column. -/
theorem dotRow_eighth (h w : Fin 1024 → EReal) :
    dotRow h (fun k => w k * Ideal.ofBits .f32 0x3E000000#32) = dotRow h w * Ideal.ofBits .f32 0x3E000000#32 := by
  unfold dotRow
  rw [eighth, ← sum_mul_real _ _ _ (by norm_num)]
  exact Finset.sum_congr rfl fun k _ => (mul_assoc _ _ _).symm

/-- A product with the block-diagonal matrix of sixty-fourths is the mean over the block of 64. -/
theorem mean_block (J : ℕ) (f : Fin (J * 64) → EReal) (l : Fin (J * 64)) (B : Fin (J * 64) → EReal)
    (hB : ∀ x, B x = if x.val / 64 = l.val / 64 then Ideal.ofBits .f32 0x3C800000#32 else 0) :
    ∑ x, f x * B x = Ideal.div (∑ j : Fin 64, f ⟨l.val / 64 * 64 + j.val, by have := l.isLt; omega⟩) (Ideal.ofBits .f32 0x42800000#32) := by
  have hl : l.val / 64 < J := by have := l.isLt; omega
  rw [sixtyFour, Ideal.div_coe (by norm_num), Fin.sum_univ_tiles J 64 rfl]
  rw [Finset.sum_eq_single (⟨l.val / 64, hl⟩ : Fin J)]
  · rw [← sum_mul_real _ _ _ (by norm_num)]
    refine Finset.sum_congr rfl fun j _ => ?_
    have hj := j.isLt
    rw [hB, if_pos (by show (l.val / 64 * 64 + j.val) / 64 = _; omega), sixtyFourth]
  · intro q _ hq
    refine Finset.sum_eq_zero fun j _ => ?_
    have hj := j.isLt
    rw [hB, if_neg, mul_zero]
    show ¬ (q.val * 64 + j.val) / 64 = _
    intro hqq
    exact hq (Fin.ext (by show q.val = l.val / 64; omega))
  · intro hn
    exact absurd (Finset.mem_univ _) hn

/-- The kernel's norm of a head, its mean taken by the block-diagonal product over `n` lanes, is the RMS norm of the lane's head. -/
theorem headNorm_of_block (n J : ℕ) (hn : n = J * 64) (A : Fin n → EReal) (l : Fin n) (B : Fin n → EReal)
    (hB : ∀ x, B x = if x.val / 64 = l.val / 64 then Ideal.ofBits .f32 0x3C800000#32 else 0) (G : EReal) :
    A l * Ideal.rsqrt (∑ x, A x * A x * B x + Ideal.ofBits FTy.f32 0x358637BD#32) * G
      = headNorm (fun j => A ⟨l.val / 64 * 64 + j.val, by have := l.isLt; omega⟩) ⟨l.val % 64, by omega⟩ G := by
  subst hn
  unfold headNorm
  rw [mean_block J (fun x => A x * A x) l B hB]
  have e : A l = A ⟨l.val / 64 * 64 + l.val % 64, by have := l.isLt; omega⟩ := congrArg A (Fin.ext (by dsimp only; omega))
  rw [e]

/-- Equal heads, components and gains have equal norms. -/
theorem headNorm_congr {p q : Fin 64 → EReal} {d d' : Fin 64} {G G' : EReal} (hp : ∀ j, p j = q j) (hd : d = d') (hG : G = G') :
    headNorm p d G = headNorm q d' G' := by
  rw [funext hp, hd, hG]

/-- A factor of the gain is a factor of the norm. -/
theorem headNorm_mul (p : Fin 64 → EReal) (d : Fin 64) (g e : EReal) : headNorm p d (g * e) = headNorm p d g * e :=
  (mul_assoc _ _ _).symm

/-! What the call's results hold at a lane, from the token's projection `P` and the gains. -/

/-- The first mixer's queries. -/
def qaAt (P : Fin 4576 → EReal) (g : Fin 64 → EReal) (c : Fin 512) : EReal :=
  headNorm (fun j => P ⟨(c.val / 64 % 2 * 4 + c.val / 128) * 64 + j.val, by omega⟩) ⟨c.val % 64, by omega⟩ (g ⟨c.val % 64, by omega⟩)
    * Ideal.ofBits .f32 0x3E000000#32
/-- The keys and values to compress. -/
def kvcAt (P : Fin 4576 → EReal) (q : Fin 2) (c : Fin 128) : EReal := P ⟨512 + (q.val * 128 + c.val), by omega⟩
/-- The selected and the window branch's keys and values, every head at two places. -/
def nkvAt (P : Fin 4576 → EReal) (gs gw : Fin 64 → EReal) (c : Fin 1024) : EReal :=
  if h : c.val / 128 < 2 then
    headNorm (fun j => P ⟨768 + (c.val / 128 * 64 + j.val), by omega⟩) ⟨c.val % 64, by omega⟩ (gs ⟨c.val % 64, by omega⟩)
  else if h : c.val / 128 - 2 < 2 then P ⟨896 + ((c.val / 128 - 2) * 64 + c.val % 64), by omega⟩
  else if h : c.val / 128 - 2 - 2 < 2 then
    headNorm (fun j => P ⟨1024 + ((c.val / 128 - 2 - 2) * 64 + j.val), by omega⟩) ⟨c.val % 64, by omega⟩ (gw ⟨c.val % 64, by omega⟩)
  else P ⟨1152 + ((c.val / 128 - 2 - 2 - 2) * 64 + c.val % 64), by omega⟩
/-- The branch gates. -/
def gnAt (P : Fin 4576 → EReal) (c : Fin 128) : EReal := if h : c.val < 24 then P ⟨1280 + c.val, by omega⟩ else 0
/-- The second mixer's queries. -/
def qbAt (P : Fin 4576 → EReal) (g : Fin 64 → EReal) (c : Fin 512) : EReal :=
  headNorm (fun j => P ⟨1304 + (c.val / 64 * 64 + j.val), by omega⟩) ⟨c.val % 64, by omega⟩ (g ⟨c.val % 64, by omega⟩)
    * Ideal.ofBits .f32 0x3E000000#32
/-- The second mixer's key, value and indexer key. -/
def dkvAt (P : Fin 4576 → EReal) (g : Fin 64 → EReal) (c : Fin 640) : EReal :=
  if h : c.val / 128 < 1 then
    headNorm (fun j => P ⟨1816 + j.val, by omega⟩) ⟨c.val % 64, by omega⟩ (g ⟨c.val % 64, by omega⟩)
  else if h : c.val / 128 - 1 < 1 then
    headNorm (fun j => P ⟨1816 + j.val, by omega⟩) ⟨c.val % 64, by omega⟩ (g ⟨c.val % 64, by omega⟩)
  else if h : c.val / 128 - 1 - 1 < 1 then P ⟨1880 + c.val % 64, by omega⟩
  else if h : c.val / 128 - 1 - 1 - 1 < 1 then P ⟨1880 + c.val % 64, by omega⟩
  else P ⟨2456 + c.val % 64, by omega⟩
/-- The indexer's queries. -/
def iqAt (P : Fin 4576 → EReal) (c : Fin 512) : EReal := P ⟨1944 + c.val, by omega⟩ * Ideal.ofBits .f32 0x3E000000#32
/-- The indexer's head weights. -/
def iwAt (P : Fin 4576 → EReal) (c : Fin 128) : EReal :=
  if h : c.val < 8 then P ⟨2520 + c.val, by omega⟩ * Ideal.ofBits .f32 1052050675#32 else 0
/-- The merge gates. -/
def gateAt (P : Fin 4576 → EReal) (c : Fin 2048) : EReal := P ⟨2528 + c.val, by omega⟩

/-- The columns `S` of the laid-out weights' product are those of the projection `P`. -/
structure Cols (S : Fin 4992 → EReal) (P : Fin 4576 → EReal) : Prop where
  qa : ∀ a b, a.val < 512 → b.val = (a.val / 64 % 2 * 4 + a.val / 128) * 64 + a.val % 64 → S a = P b
  mid : ∀ a b, 512 ≤ a.val → a.val < 1280 → b.val = a.val → S a = P b
  qb : ∀ a b, 1280 ≤ a.val → a.val < 1792 → b.val = a.val + 24 → S a = P b
  kb : ∀ a b, 1792 ≤ a.val → a.val < 1920 → b.val = 1816 + (a.val - 1792) % 64 → S a = P b
  vb : ∀ a b, 1920 ≤ a.val → a.val < 2048 → b.val = 1880 + (a.val - 1920) % 64 → S a = P b
  ik : ∀ a b, 2048 ≤ a.val → a.val < 2176 → b.val = 2456 + (a.val - 2048) % 64 → S a = P b
  iw : ∀ a b, 2176 ≤ a.val → a.val < 2184 → b.val = a.val + 344 → S a = P b
  iw0 : ∀ a, 2184 ≤ a.val → a.val < 2304 → S a = 0
  iq : ∀ a b, 2304 ≤ a.val → a.val < 2816 → b.val + 360 = a.val → S a = P b * Ideal.ofBits .f32 0x3E000000#32
  gn : ∀ a b, 2816 ≤ a.val → a.val < 2840 → b.val + 1536 = a.val → S a = P b
  gn0 : ∀ a, 2840 ≤ a.val → a.val < 2944 → S a = 0
  gate : ∀ a b, 2944 ≤ a.val → b.val + 416 = a.val → S a = P b

/-- The laid-out gains `G` are those of the five norms, the queries' with their scale. -/
structure Gains (G : Fin 1408 → EReal) (ga gs gw gb gk : Fin 64 → EReal) : Prop where
  qa : ∀ a d, a.val < 512 → d.val = a.val % 64 → G a = ga d * Ideal.ofBits .f32 0x3E000000#32
  ks : ∀ a d, 512 ≤ a.val → a.val < 640 → d.val = a.val % 64 → G a = gs d
  kw : ∀ a d, 640 ≤ a.val → a.val < 768 → d.val = a.val % 64 → G a = gw d
  qb : ∀ a d, 768 ≤ a.val → a.val < 1280 → d.val = a.val % 64 → G a = gb d * Ideal.ofBits .f32 0x3E000000#32
  kb : ∀ a d, 1280 ≤ a.val → d.val = a.val % 64 → G a = gk d

end Cert.InSpec

end
-- ==== Proof.InKernel.lean ====
/-
  What the input projection's body leaves in its nine output blocks, read at an index: the functions of `InSpec` of the
  token's projection and the gains.
-/
module

public import proofs.«01_k».proof.Defs
public import proofs.«01_k».proof.Proof.Gen.Kernel2Ideal.Value
public import proofs.«01_k».proof.Proof.InSpec
public import Idealize.ShloMosaic.Lib.Pipeline.ValueKit

@[expose] public section

set_option maxRecDepth 16384

noncomputable section

namespace Cert.Kernel2Ideal.InValue

open Cert.Kernel2Ideal Cert.Kernel2Ideal.Gen Cert.PostSpec Cert.InSpec
open Idealize.ShloMosaic Idealize.ShloMosaic.TcCoe Idealize.SL.Sem
open Idealize.ShloMosaic.Pipeline (Dat)

/-- Column `n` of the laid-out product of row `r`. -/
def seg (hh : FVec Ideal S512x1024 .bf16) (x3 : Vec Ideal S1024x4992 .bf16) (r : Fin 512) (n : Fin 4992) : EReal :=
  ∑ k, hh (ix2 r k) * x3 (ix2 k n)

/-- A lane below 64 takes the first of the two. -/
theorem sel_lo {α : Type} (l : Fin 128) (h : l.val < 64) (a b : α) :
    Scalar.select (IntOp.cmpi CmpIPredicate.slt (BitVec.ofNat 32 l.val) 64#32) a b = a := by
  have e : IntOp.cmpi CmpIPredicate.slt (BitVec.ofNat 32 l.val) 64#32 = 1#1 := by
    revert h; revert l; decide +kernel
  rw [e]; rfl
/-- A lane from 64 on takes the second. -/
theorem sel_hi {α : Type} (l : Fin 128) (h : 64 ≤ l.val) (a b : α) :
    Scalar.select (IntOp.cmpi CmpIPredicate.slt (BitVec.ofNat 32 l.val) 64#32) a b = b := by
  have e : IntOp.cmpi CmpIPredicate.slt (BitVec.ofNat 32 l.val) 64#32 = 0#1 := by
    revert h; revert l; decide +kernel
  rw [e]; rfl

/-- The normed and modulated row of a block. -/
theorem h_apply (i : grid0.Coords) (x0 : Vec Ideal S1x512x1024 .f32) (x1 : Vec Ideal S1x6x1024 .f32) (x2 : Vec Ideal S1x1024 .f32)
    (x3 : Vec Ideal S1024x4992 .bf16) (x4 : Vec Ideal S256x256 .bf16) (x5 : Vec Ideal S1x1408 .f32) (r : Fin 512) (k : Fin 1024) :
    k0_pay60 i x0 x1 x2 x3 x4 x5 (ix2 r k)
      = h2Row (fun k => x0 (ix3 0 r k)) (fun k => x2 (ix2 0 k)) (fun k => x1 (ix3 0 1 k)) (fun k => x1 (ix3 0 0 k)) k := by
  unfold k0_pay60
  pointwise [k0_pay2]
  simp only [h2Row]

section
variable (i : grid0.Coords) (x0 : Vec Ideal S1x512x1024 .f32) (x1 : Vec Ideal S1x6x1024 .f32) (x2 : Vec Ideal S1x1024 .f32)
  (x3 : Vec Ideal S1024x4992 .bf16) (x4 : Vec Ideal S256x256 .bf16) (x5 : Vec Ideal S1x1408 .f32)
  (P : Fin 512 → Fin 4576 → EReal) (ga gs gw gb gk : Fin 64 → EReal)
  (cols : ∀ r, Cols (seg (k0_pay60 i x0 x1 x2 x3 x4 x5) x3 r) (P r))
  (gains : Gains (fun n => x5 (ix2 0 n)) ga gs gw gb gk)
  (diag : ∀ a b, x4 (ix2 a b) = if a.val / 64 = b.val / 64 then Ideal.ofBits .f32 0x3C800000#32 else 0)
include cols

include gains diag in
/-- The block of the first mixer's queries. -/
theorem out6_apply (r : Fin 512) (l : Fin 512) : out0_6 i x0 x1 x2 x3 x4 x5 (ix3 0 r l) = qaAt (P r) ga l := by
  unfold out0_6
  generalize k0_pay60 i x0 x1 x2 x3 x4 x5 = hh at cols ⊢
  frame_out
  open_payloads
  pointwise
  unfold qaAt
  rw [← headNorm_mul]
  split
  · refine (headNorm_of_block 256 4 rfl (fun x => seg hh x3 r ⟨x.val, by omega⟩) ⟨l.val, by assumption⟩
      (fun x => x4 (ix2 x ⟨l.val, by omega⟩)) (fun x => diag _ _) _).trans ?_
    refine headNorm_congr (fun j => (cols r).qa _ _ ?_ ?_) rfl (gains.qa _ _ ?_ ?_) <;> (try dsimp only) <;> omega
  · refine (headNorm_of_block 256 4 rfl (fun x => seg hh x3 r ⟨256 + x.val, by omega⟩) ⟨l.val - 256, by omega⟩
      (fun x => x4 (ix2 x ⟨l.val - 256, by omega⟩)) (fun x => diag _ _) _).trans
      (headNorm_congr (fun j => (cols r).qa _ _ (by dsimp only; omega) (by dsimp only; omega)) (Fin.ext (by dsimp only; omega)) (gains.qa _ _ (by dsimp only; omega) (by dsimp only; omega)))

include gains diag in
/-- The block of the second mixer's queries. -/
theorem out10_apply (r : Fin 512) (l : Fin 512) : out0_10 i x0 x1 x2 x3 x4 x5 (ix3 0 r l) = qbAt (P r) gb l := by
  unfold out0_10
  generalize k0_pay60 i x0 x1 x2 x3 x4 x5 = hh at cols ⊢
  frame_out
  open_payloads
  pointwise
  unfold qbAt
  rw [← headNorm_mul]
  split
  · refine (headNorm_of_block 256 4 rfl (fun x => seg hh x3 r ⟨1280 + x.val, by omega⟩) ⟨l.val, by assumption⟩
      (fun x => x4 (ix2 x ⟨l.val, by omega⟩)) (fun x => diag _ _) _).trans ?_
    refine headNorm_congr (fun j => (cols r).qb _ _ ?_ ?_ ?_) rfl (gains.qb _ _ ?_ ?_ ?_) <;> (try dsimp only) <;> omega
  · refine (headNorm_of_block 256 4 rfl (fun x => seg hh x3 r ⟨1280 + (256 + x.val), by omega⟩) ⟨l.val - 256, by omega⟩
      (fun x => x4 (ix2 x ⟨l.val - 256, by omega⟩)) (fun x => diag _ _) _).trans
      (headNorm_congr (fun j => (cols r).qb _ _ (by dsimp only; omega) (by dsimp only; omega) (by dsimp only; omega)) (Fin.ext (by dsimp only; omega)) (gains.qb _ _ (by dsimp only; omega) (by dsimp only; omega) (by dsimp only; omega)))

/-- The block of the branch gates. -/
theorem out9_apply (r : Fin 512) (l : Fin 128) : out0_9 i x0 x1 x2 x3 x4 x5 (ix3 0 r l) = gnAt (P r) l := by
  unfold out0_9
  generalize k0_pay60 i x0 x1 x2 x3 x4 x5 = hh at cols ⊢
  frame_out
  open_payloads
  pointwise
  unfold gnAt
  split
  · refine (cols r).gn _ _ ?_ ?_ ?_ <;> (dsimp only; omega)
  · refine (cols r).gn0 _ ?_ ?_ <;> (dsimp only; omega)

/-- The block of the indexer's queries. -/
theorem out12_apply (r : Fin 512) (l : Fin 512) : out0_12 i x0 x1 x2 x3 x4 x5 (ix3 0 r l) = iqAt (P r) l := by
  unfold out0_12
  generalize k0_pay60 i x0 x1 x2 x3 x4 x5 = hh at cols ⊢
  frame_out
  open_payloads
  pointwise
  refine (cols r).iq _ _ ?_ ?_ ?_ <;> (dsimp only; omega)

/-- The block of the indexer's head weights. -/
theorem out13_apply (r : Fin 512) (l : Fin 128) : out0_13 i x0 x1 x2 x3 x4 x5 (ix3 0 r l) = iwAt (P r) l := by
  unfold out0_13
  generalize k0_pay60 i x0 x1 x2 x3 x4 x5 = hh at cols ⊢
  frame_out
  open_payloads
  pointwise
  unfold iwAt
  split
  · refine congrArg (· * Ideal.ofBits .f32 1052050675#32) ((cols r).iw _ _ ?_ ?_ ?_) <;> (dsimp only; omega)
  · refine (congrArg (· * Ideal.ofBits .f32 1052050675#32) ((cols r).iw0 _ ?_ ?_)).trans (zero_mul _) <;> (dsimp only; omega)

/-- The block of the keys and values to compress. -/
theorem out7_apply (y : S1x2x512x128.Idx) : out0_7 i x0 x1 x2 x3 x4 x5 y = kvcAt (P (y 2)) (y 1) (y 3) := by
  unfold out0_7
  generalize k0_pay60 i x0 x1 x2 x3 x4 x5 = hh at cols ⊢
  canon_tiles x h
  case piece0 =>
    open_payloads
    pointwise
    have e : P (y 2) = P (x 2) := congrArg P (Fin.ext h2)
    rw [e]
    refine (cols (x 2)).mid _ _ ?_ ?_ ?_ <;> (dsimp only; omega)
  case piece1 =>
    open_payloads
    pointwise
    have e : P (y 2) = P (x 2) := congrArg P (Fin.ext h2)
    rw [e]
    refine (cols (x 2)).mid _ _ ?_ ?_ ?_ <;> (dsimp only; omega)

/-- The block of the merge gates. -/
theorem out14_apply (y : S1x512x2048.Idx) : out0_14 i x0 x1 x2 x3 x4 x5 y = gateAt (P (y 1)) (y 2) := by
  unfold out0_14
  generalize k0_pay60 i x0 x1 x2 x3 x4 x5 = hh at cols ⊢
  canon_tiles x h
  case piece0 =>
    open_payloads
    pointwise
    have e : P (y 1) = P (x 1) := congrArg P (Fin.ext h1)
    rw [e]
    refine (cols (x 1)).gate _ _ ?_ ?_ <;> (dsimp only; omega)
  case piece1 =>
    open_payloads
    pointwise
    have e : P (y 1) = P (x 1) := congrArg P (Fin.ext h1)
    rw [e]
    refine (cols (x 1)).gate _ _ ?_ ?_ <;> (dsimp only; omega)
  case piece2 =>
    open_payloads
    pointwise
    have e : P (y 1) = P (x 1) := congrArg P (Fin.ext h1)
    rw [e]
    refine (cols (x 1)).gate _ _ ?_ ?_ <;> (dsimp only; omega)
  case piece3 =>
    open_payloads
    pointwise
    have e : P (y 1) = P (x 1) := congrArg P (Fin.ext h1)
    rw [e]
    refine (cols (x 1)).gate _ _ ?_ ?_ <;> (dsimp only; omega)

include gains diag in
/-- The block of the selected and the window branch's keys and values, away from the positions and the ones. -/
theorem out8_apply (y : S1x512x1024.Idx) (cond : (y 2).val % 256 < 64 ∨ 192 ≤ (y 2).val % 256) :
    out0_8 i x0 x1 x2 x3 x4 x5 y = nkvAt (P (y 1)) gs gw (y 2) := by
  unfold out0_8 k0_pay68 k0_pay67 k0_pay66 k0_pay65 k0_pay61 k0_pay59
  generalize k0_pay60 i x0 x1 x2 x3 x4 x5 = hh at cols ⊢
  generalize k0_pay62 i x0 x1 x2 x3 x4 x5 = f2
  generalize k0_pay63 i x0 x1 x2 x3 x4 x5 = f3
  generalize k0_pay64 i x0 x1 x2 x3 x4 x5 = f4
  canon_tiles x h
  case piece7 =>
    open_payloads
    pointwise
    rw [sel_lo (x 2) (by omega)]
    have e : P (y 1) = P (x 1) := congrArg P (Fin.ext h1)
    rw [e]
    unfold nkvAt
    rw [dif_pos (by omega)]
    exact (headNorm_of_block 128 2 rfl (fun z => seg hh x3 (x 1) ⟨768 + z.val, by omega⟩) (x 2)
      (fun z => x4 (ix2 ⟨z.val, by omega⟩ ⟨(x 2).val, by omega⟩)) (fun z => diag _ _) _).trans
      (headNorm_congr (fun j => (cols (x 1)).mid _ _ (by dsimp only; omega) (by dsimp only; omega) (by dsimp only; omega)) (Fin.ext (by dsimp only; omega)) (gains.ks _ _ (by dsimp only; omega) (by dsimp only; omega) (by dsimp only; omega)))
  case piece6 =>
    open_payloads
    pointwise
    rw [sel_hi (x 2) (by omega)]
    have e : P (y 1) = P (x 1) := congrArg P (Fin.ext h1)
    rw [e]
    unfold nkvAt
    rw [dif_pos (by omega)]
    exact (headNorm_of_block 128 2 rfl (fun z => seg hh x3 (x 1) ⟨768 + z.val, by omega⟩) (x 2)
      (fun z => x4 (ix2 ⟨z.val, by omega⟩ ⟨(x 2).val, by omega⟩)) (fun z => diag _ _) _).trans
      (headNorm_congr (fun j => (cols (x 1)).mid _ _ (by dsimp only; omega) (by dsimp only; omega) (by dsimp only; omega)) (Fin.ext (by dsimp only; omega)) (gains.ks _ _ (by dsimp only; omega) (by dsimp only; omega) (by dsimp only; omega)))
  case piece5 =>
    open_payloads
    pointwise
    rw [sel_lo (x 2) (by omega)]
    have e : P (y 1) = P (x 1) := congrArg P (Fin.ext h1)
    rw [e]
    unfold nkvAt
    rw [dif_neg (by omega), dif_pos (by omega)]
    refine (cols (x 1)).mid _ _ ?_ ?_ ?_ <;> (dsimp only; omega)
  case piece4 =>
    open_payloads
    pointwise
    rw [sel_hi (x 2) (by omega)]
    have e : P (y 1) = P (x 1) := congrArg P (Fin.ext h1)
    rw [e]
    unfold nkvAt
    rw [dif_neg (by omega), dif_pos (by omega)]
    refine (cols (x 1)).mid _ _ ?_ ?_ ?_ <;> (dsimp only; omega)
  case piece3 =>
    open_payloads
    pointwise
    rw [sel_lo (x 2) (by omega)]
    have e : P (y 1) = P (x 1) := congrArg P (Fin.ext h1)
    rw [e]
    unfold nkvAt
    rw [dif_neg (by omega), dif_neg (by omega), dif_pos (by omega)]
    exact (headNorm_of_block 128 2 rfl (fun z => seg hh x3 (x 1) ⟨1024 + z.val, by omega⟩) (x 2)
      (fun z => x4 (ix2 ⟨z.val, by omega⟩ ⟨(x 2).val, by omega⟩)) (fun z => diag _ _) _).trans
      (headNorm_congr (fun j => (cols (x 1)).mid _ _ (by dsimp only; omega) (by dsimp only; omega) (by dsimp only; omega)) (Fin.ext (by dsimp only; omega)) (gains.kw _ _ (by dsimp only; omega) (by dsimp only; omega) (by dsimp only; omega)))
  case piece2 =>
    open_payloads
    pointwise
    rw [sel_hi (x 2) (by omega)]
    have e : P (y 1) = P (x 1) := congrArg P (Fin.ext h1)
    rw [e]
    unfold nkvAt
    rw [dif_neg (by omega), dif_neg (by omega), dif_pos (by omega)]
    exact (headNorm_of_block 128 2 rfl (fun z => seg hh x3 (x 1) ⟨1024 + z.val, by omega⟩) (x 2)
      (fun z => x4 (ix2 ⟨z.val, by omega⟩ ⟨(x 2).val, by omega⟩)) (fun z => diag _ _) _).trans
      (headNorm_congr (fun j => (cols (x 1)).mid _ _ (by dsimp only; omega) (by dsimp only; omega) (by dsimp only; omega)) (Fin.ext (by dsimp only; omega)) (gains.kw _ _ (by dsimp only; omega) (by dsimp only; omega) (by dsimp only; omega)))
  case piece1 =>
    open_payloads
    pointwise
    rw [sel_lo (x 2) (by omega)]
    have e : P (y 1) = P (x 1) := congrArg P (Fin.ext h1)
    rw [e]
    unfold nkvAt
    rw [dif_neg (by omega), dif_neg (by omega), dif_neg (by omega)]
    refine (cols (x 1)).mid _ _ ?_ ?_ ?_ <;> (dsimp only; omega)
  case piece0 =>
    open_payloads
    pointwise
    rw [sel_hi (x 2) (by omega)]
    have e : P (y 1) = P (x 1) := congrArg P (Fin.ext h1)
    rw [e]
    unfold nkvAt
    rw [dif_neg (by omega), dif_neg (by omega), dif_neg (by omega)]
    refine (cols (x 1)).mid _ _ ?_ ?_ ?_ <;> (dsimp only; omega)

include gains diag in
/-- The block of the second mixer's key, value and indexer key, away from the positions and the ones. -/
theorem out11_apply (y : S1x512x640.Idx) (cond : ((y 2).val % 256 < 64 ∨ 192 ≤ (y 2).val % 256) ∨ 512 ≤ (y 2).val) :
    out0_11 i x0 x1 x2 x3 x4 x5 y = dkvAt (P (y 1)) gk (y 2) := by
  unfold out0_11 k0_pay69 k0_pay61
  generalize k0_pay60 i x0 x1 x2 x3 x4 x5 = hh at cols ⊢
  generalize k0_pay63 i x0 x1 x2 x3 x4 x5 = f3
  generalize k0_pay64 i x0 x1 x2 x3 x4 x5 = f4
  canon_tiles x h
  case piece4 =>
    open_payloads
    pointwise
    rw [sel_lo (x 2) (by omega)]
    have e : P (y 1) = P (x 1) := congrArg P (Fin.ext h1)
    rw [e]
    unfold dkvAt
    rw [dif_pos (by omega)]
    exact (headNorm_of_block 128 2 rfl (fun z => seg hh x3 (x 1) ⟨1792 + z.val, by omega⟩) (x 2)
      (fun z => x4 (ix2 ⟨z.val, by omega⟩ ⟨(x 2).val, by omega⟩)) (fun z => diag _ _) _).trans
      (headNorm_congr (fun j => (cols (x 1)).kb _ _ (by dsimp only; omega) (by dsimp only; omega) (by dsimp only; omega)) (Fin.ext (by dsimp only; omega)) (gains.kb _ _ (by dsimp only; omega) (by dsimp only; omega)))
  case piece3 =>
    open_payloads
    pointwise
    rw [sel_hi (x 2) (by omega)]
    have e : P (y 1) = P (x 1) := congrArg P (Fin.ext h1)
    rw [e]
    unfold dkvAt
    rw [dif_neg (by omega), dif_pos (by omega)]
    exact (headNorm_of_block 128 2 rfl (fun z => seg hh x3 (x 1) ⟨1792 + z.val, by omega⟩) (x 2)
      (fun z => x4 (ix2 ⟨z.val, by omega⟩ ⟨(x 2).val, by omega⟩)) (fun z => diag _ _) _).trans
      (headNorm_congr (fun j => (cols (x 1)).kb _ _ (by dsimp only; omega) (by dsimp only; omega) (by dsimp only; omega)) (Fin.ext (by dsimp only; omega)) (gains.kb _ _ (by dsimp only; omega) (by dsimp only; omega)))
  case piece2 =>
    open_payloads
    pointwise
    rw [sel_lo (x 2) (by omega)]
    have e : P (y 1) = P (x 1) := congrArg P (Fin.ext h1)
    rw [e]
    unfold dkvAt
    rw [dif_neg (by omega), dif_neg (by omega), dif_pos (by omega)]
    refine (cols (x 1)).vb _ _ ?_ ?_ ?_ <;> (dsimp only; omega)
  case piece1 =>
    open_payloads
    pointwise
    rw [sel_hi (x 2) (by omega)]
    have e : P (y 1) = P (x 1) := congrArg P (Fin.ext h1)
    rw [e]
    unfold dkvAt
    rw [dif_neg (by omega), dif_neg (by omega), dif_neg (by omega), dif_pos (by omega)]
    refine (cols (x 1)).vb _ _ ?_ ?_ ?_ <;> (dsimp only; omega)
  case piece0 =>
    open_payloads
    pointwise
    have e : P (y 1) = P (x 1) := congrArg P (Fin.ext h1)
    rw [e]
    unfold dkvAt
    rw [dif_neg (by omega), dif_neg (by omega), dif_neg (by omega), dif_neg (by omega)]
    refine (cols (x 1)).ik _ _ ?_ ?_ ?_ <;> (dsimp only; omega)

end

end Cert.Kernel2Ideal.InValue

end
-- ==== Proof.InReads.lean ====
/-
  What the input projection's body reads: the blocks of the arguments, the laid-out weights and gains, and the block-diagonal
  matrix, each at an index of the arguments.
-/
module

public import proofs.«01_k».proof.Defs
public import proofs.«01_k».proof.Proof.Gen.Kernel2Ideal.Value
public import proofs.«01_k».proof.Proof.InKernel
public import Idealize.ShloMosaic.Lib.Pipeline.ValueKit
public import Idealize.ShloMosaic.Lib.StableHlo.RunRead

@[expose] public section

set_option maxRecDepth 16384

noncomputable section

namespace Cert.Kernel2Ideal.InValue

open Cert.Kernel2Ideal Cert.Kernel2Ideal.Gen Cert.PostSpec Cert.InSpec
open Idealize.ShloMosaic Idealize.ShloMosaic.TcCoe Idealize.SL.Sem
open Idealize.ShloMosaic.Pipeline (Dat)

variable (m : (ℓ : Loc nD τ sig) → Buf (Elt Ideal) ℓ)

/-- Every window's block index at grid point `t`: batch `t / 4`, tile of 512 tokens `t % 4`. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] ∧ win0_7.index t = ![t.val / 4, 0, t.val % 4, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0]
    ∧ win0_14.index t = ![t.val / 4, t.val % 4, 0] ∧ t.val / 4 < 32 :=
  (by decide +kernel : ∀ t : Fin grid0.N, _)

/-- The batch element of point `t`. -/
def bt (t : Fin cfg0.N) : Fin 32 := ⟨t.val / 4, by have := (idx t); omega⟩
/-- The token of row `r` of point `t`. -/
def row (t : Fin cfg0.N) (r : Fin 512) : Fin 2048 := ⟨t.val % 4 * 512 + r.val, by omega⟩

section
variable (c : Dev nD)
/-- The projection's weights. -/
abbrev ar3 : FVec Ideal S1024x4576 .f32 := m ((c.tc : Thread nD τ).loc main_arg3)
/-- The five gains. -/
abbrev ar4 : FVec Ideal S64 .f32 := m ((c.tc : Thread nD τ).loc main_arg4)
/-- The second. -/
abbrev ar5 : FVec Ideal S64 .f32 := m ((c.tc : Thread nD τ).loc main_arg5)
/-- The third. -/
abbrev ar6 : FVec Ideal S64 .f32 := m ((c.tc : Thread nD τ).loc main_arg6)
/-- The fourth. -/
abbrev ar7 : FVec Ideal S64 .f32 := m ((c.tc : Thread nD τ).loc main_arg7)
/-- The fifth. -/
abbrev ar8 : FVec Ideal S64 .f32 := m ((c.tc : Thread nD τ).loc main_arg8)
end

section
variable (c : Dev nD) (t : Fin cfg0.N) (r : Fin 512)

/-- The block of `x`. -/
theorem rd0 (k : Fin 1024) : iblk m c 0 t (ix3 0 r k) = m ((c.tc : Thread nD τ).loc main_arg0) (ix3 (bt t) (row t r) k) := by
  unfold bt row; blk_ext [iblk, V, idx t]
/-- The shift of the modulation. -/
theorem rd1a (k : Fin 1024) : iblk m c 1 t (ix3 0 0 k) = m ((c.tc : Thread nD τ).loc main_arg1) (ix2 (bt t) ⟨k.val, by omega⟩) := by
  refine (by unfold bt; blk_ext [iblk, idx t] : iblk m c 1 t (ix3 0 0 k) = V m c main_v58 (ix3 (bt t) 0 k)).trans ?_
  simp only [V, List.flatten_cons, List.flatten_nil, List.append_nil]
  after_reads_simp
  pointwise
/-- Its scale. -/
theorem rd1b (k : Fin 1024) : iblk m c 1 t (ix3 0 1 k) = m ((c.tc : Thread nD τ).loc main_arg1) (ix2 (bt t) ⟨1024 + k.val, by omega⟩) := by
  refine (by unfold bt; blk_ext [iblk, idx t] : iblk m c 1 t (ix3 0 1 k) = V m c main_v58 (ix3 (bt t) 1 k)).trans ?_
  simp only [V, List.flatten_cons, List.flatten_nil, List.append_nil]
  after_reads_simp
  pointwise
/-- The norm's gain. -/
theorem rd2 (k : Fin 1024) : iblk m c 2 t (ix2 0 k) = m ((c.tc : Thread nD τ).loc main_arg2) (ix1 k) := by
  refine (by blk_ext [iblk, idx t] : iblk m c 2 t (ix2 0 k) = V m c main_v59 (ix2 0 k)).trans ?_
  simp only [V, List.flatten_cons, List.flatten_nil, List.append_nil]
  after_reads_simp
  pointwise
/-- The laid-out weights. -/
theorem rd3 (k : Fin 1024) (n : Fin 4992) : iblk m c 3 t (ix2 k n) = V m c main_v27 (ix2 k n) := by
  blk_ext [iblk, idx t]
/-- The block-diagonal matrix. -/
theorem rd4 (a b : Fin 256) : iblk m c 4 t (ix2 a b) = V m c main_v57 (ix2 a b) := by
  blk_ext [iblk, idx t]
/-- The laid-out gains. -/
theorem rd5 (n : Fin 1408) : iblk m c 5 t (ix2 0 n) = V m c main_v48 (ix2 0 n) := by
  blk_ext [iblk, idx t]

end

section
variable (p0 : FVec Ideal S1024x512 .f32) (p1 : FVec Ideal S1024x128 .f32) (p2 : FVec Ideal S1024x128 .f32) (p3 : FVec Ideal S1024x128 .f32) (p4 : FVec Ideal S1024x128 .f32) (p5 : FVec Ideal S1024x128 .f32) (p6 : FVec Ideal S1024x128 .f32) (p7 : FVec Ideal S1024x512 .f32) (p8 : FVec Ideal S1024x128 .f32) (p9 : FVec Ideal S1024x128 .f32) (p10 : FVec Ideal S1024x128 .f32) (p11 : FVec Ideal S1024x128 .f32) (p12 : FVec Ideal S1024x512 .f32) (p13 : FVec Ideal S1024x128 .f32) (p14 : FVec Ideal S1024x1024 .f32) (p15 : FVec Ideal S1024x1024 .f32) (k : Fin 1024)
/-- Sixteen column blocks side by side. -/
def catF : FVec Ideal S1024x4992 .f32 := (concatenate S1024x4992 1 [⟨S1024x512, p0⟩, ⟨S1024x128, p1⟩, ⟨S1024x128, p2⟩, ⟨S1024x128, p3⟩, ⟨S1024x128, p4⟩, ⟨S1024x128, p5⟩, ⟨S1024x128, p6⟩, ⟨S1024x512, p7⟩, ⟨S1024x128, p8⟩, ⟨S1024x128, p9⟩, ⟨S1024x128, p10⟩, ⟨S1024x128, p11⟩, ⟨S1024x512, p12⟩, ⟨S1024x128, p13⟩, ⟨S1024x1024, p14⟩, ⟨S1024x1024, p15⟩]
    concatenates_S1024x512_S1024x128_S1024x128_S1024x128_S1024x128_S1024x128_S1024x128_S1024x512_S1024x128_S1024x128_S1024x128_S1024x128_S1024x512_S1024x128_S1024x1024_S1024x1024_S1024x4992_d1)
/-- The same, rounded. -/
def cat16 : FVec Ideal S1024x4992 .bf16 := truncf .bf16 (catF p0 p1 p2 p3 p4 p5 p6 p7 p8 p9 p10 p11 p12 p13 p14 p15) bitsLt_bf16_f32
/-- Block 0. -/
theorem cat16_0 (n : Fin 512) : cat16 p0 p1 p2 p3 p4 p5 p6 p7 p8 p9 p10 p11 p12 p13 p14 p15 (ix2 k ⟨n.val, by omega⟩) = p0 (ix2 k n) := by
  show catF p0 p1 p2 p3 p4 p5 p6 p7 p8 p9 p10 p11 p12 p13 p14 p15 (ix2 k ⟨n.val, by omega⟩) = _
  unfold catF
  refine concatenate_apply_piece (t := S1024x4992) _ _ _ _ 0 ?_ S1024x512 p0 ?_ (rfl : S1024x512.rank = S1024x4992.rank) 0 ?_ (ix2 k n) ?_ ?_
  · show 0 < 16; omega
  · rfl
  · rfl
  · rintro ⟨_ | _ | b, hb'⟩ hb
    · rfl
    · exact absurd rfl hb
    · exact absurd hb' (by simp)
  · exact Nat.zero_add _
/-- Block 1. -/
theorem cat16_1 (n : Fin 128) : cat16 p0 p1 p2 p3 p4 p5 p6 p7 p8 p9 p10 p11 p12 p13 p14 p15 (ix2 k ⟨512 + n.val, by omega⟩) = p1 (ix2 k n) := by
  show catF p0 p1 p2 p3 p4 p5 p6 p7 p8 p9 p10 p11 p12 p13 p14 p15 (ix2 k ⟨512 + n.val, by omega⟩) = _
  unfold catF
  refine concatenate_apply_piece (t := S1024x4992) _ _ _ _ 1 ?_ S1024x128 p1 ?_ (rfl : S1024x128.rank = S1024x4992.rank) 512 ?_ (ix2 k n) ?_ ?_
  · show 1 < 16; omega
  · rfl
  · rfl
  · rintro ⟨_ | _ | b, hb'⟩ hb
    · rfl
    · exact absurd rfl hb
    · exact absurd hb' (by simp)
  · rfl
/-- Block 2. -/
theorem cat16_2 (n : Fin 128) : cat16 p0 p1 p2 p3 p4 p5 p6 p7 p8 p9 p10 p11 p12 p13 p14 p15 (ix2 k ⟨640 + n.val, by omega⟩) = p2 (ix2 k n) := by
  show catF p0 p1 p2 p3 p4 p5 p6 p7 p8 p9 p10 p11 p12 p13 p14 p15 (ix2 k ⟨640 + n.val, by omega⟩) = _
  unfold catF
  refine concatenate_apply_piece (t := S1024x4992) _ _ _ _ 2 ?_ S1024x128 p2 ?_ (rfl : S1024x128.rank = S1024x4992.rank) 640 ?_ (ix2 k n) ?_ ?_
  · show 2 < 16; omega
  · rfl
  · rfl
  · rintro ⟨_ | _ | b, hb'⟩ hb
    · rfl
    · exact absurd rfl hb
    · exact absurd hb' (by simp)
  · rfl
/-- Block 3. -/
theorem cat16_3 (n : Fin 128) : cat16 p0 p1 p2 p3 p4 p5 p6 p7 p8 p9 p10 p11 p12 p13 p14 p15 (ix2 k ⟨768 + n.val, by omega⟩) = p3 (ix2 k n) := by
  show catF p0 p1 p2 p3 p4 p5 p6 p7 p8 p9 p10 p11 p12 p13 p14 p15 (ix2 k ⟨768 + n.val, by omega⟩) = _
  unfold catF
  refine concatenate_apply_piece (t := S1024x4992) _ _ _ _ 3 ?_ S1024x128 p3 ?_ (rfl : S1024x128.rank = S1024x4992.rank) 768 ?_ (ix2 k n) ?_ ?_
  · show 3 < 16; omega
  · rfl
  · rfl
  · rintro ⟨_ | _ | b, hb'⟩ hb
    · rfl
    · exact absurd rfl hb
    · exact absurd hb' (by simp)
  · rfl
/-- Block 4. -/
theorem cat16_4 (n : Fin 128) : cat16 p0 p1 p2 p3 p4 p5 p6 p7 p8 p9 p10 p11 p12 p13 p14 p15 (ix2 k ⟨896 + n.val, by omega⟩) = p4 (ix2 k n) := by
  show catF p0 p1 p2 p3 p4 p5 p6 p7 p8 p9 p10 p11 p12 p13 p14 p15 (ix2 k ⟨896 + n.val, by omega⟩) = _
  unfold catF
  refine concatenate_apply_piece (t := S1024x4992) _ _ _ _ 4 ?_ S1024x128 p4 ?_ (rfl : S1024x128.rank = S1024x4992.rank) 896 ?_ (ix2 k n) ?_ ?_
  · show 4 < 16; omega
  · rfl
  · rfl
  · rintro ⟨_ | _ | b, hb'⟩ hb
    · rfl
    · exact absurd rfl hb
    · exact absurd hb' (by simp)
  · rfl
/-- Block 5. -/
theorem cat16_5 (n : Fin 128) : cat16 p0 p1 p2 p3 p4 p5 p6 p7 p8 p9 p10 p11 p12 p13 p14 p15 (ix2 k ⟨1024 + n.val, by omega⟩) = p5 (ix2 k n) := by
  show catF p0 p1 p2 p3 p4 p5 p6 p7 p8 p9 p10 p11 p12 p13 p14 p15 (ix2 k ⟨1024 + n.val, by omega⟩) = _
  unfold catF
  refine concatenate_apply_piece (t := S1024x4992) _ _ _ _ 5 ?_ S1024x128 p5 ?_ (rfl : S1024x128.rank = S1024x4992.rank) 1024 ?_ (ix2 k n) ?_ ?_
  · show 5 < 16; omega
  · rfl
  · rfl
  · rintro ⟨_ | _ | b, hb'⟩ hb
    · rfl
    · exact absurd rfl hb
    · exact absurd hb' (by simp)
  · rfl
/-- Block 6. -/
theorem cat16_6 (n : Fin 128) : cat16 p0 p1 p2 p3 p4 p5 p6 p7 p8 p9 p10 p11 p12 p13 p14 p15 (ix2 k ⟨1152 + n.val, by omega⟩) = p6 (ix2 k n) := by
  show catF p0 p1 p2 p3 p4 p5 p6 p7 p8 p9 p10 p11 p12 p13 p14 p15 (ix2 k ⟨1152 + n.val, by omega⟩) = _
  unfold catF
  refine concatenate_apply_piece (t := S1024x4992) _ _ _ _ 6 ?_ S1024x128 p6 ?_ (rfl : S1024x128.rank = S1024x4992.rank) 1152 ?_ (ix2 k n) ?_ ?_
  · show 6 < 16; omega
  · rfl
  · rfl
  · rintro ⟨_ | _ | b, hb'⟩ hb
    · rfl
    · exact absurd rfl hb
    · exact absurd hb' (by simp)
  · rfl
/-- Block 7. -/
theorem cat16_7 (n : Fin 512) : cat16 p0 p1 p2 p3 p4 p5 p6 p7 p8 p9 p10 p11 p12 p13 p14 p15 (ix2 k ⟨1280 + n.val, by omega⟩) = p7 (ix2 k n) := by
  show catF p0 p1 p2 p3 p4 p5 p6 p7 p8 p9 p10 p11 p12 p13 p14 p15 (ix2 k ⟨1280 + n.val, by omega⟩) = _
  unfold catF
  refine concatenate_apply_piece (t := S1024x4992) _ _ _ _ 7 ?_ S1024x512 p7 ?_ (rfl : S1024x512.rank = S1024x4992.rank) 1280 ?_ (ix2 k n) ?_ ?_
  · show 7 < 16; omega
  · rfl
  · rfl
  · rintro ⟨_ | _ | b, hb'⟩ hb
    · rfl
    · exact absurd rfl hb
    · exact absurd hb' (by simp)
  · rfl
/-- Block 8. -/
theorem cat16_8 (n : Fin 128) : cat16 p0 p1 p2 p3 p4 p5 p6 p7 p8 p9 p10 p11 p12 p13 p14 p15 (ix2 k ⟨1792 + n.val, by omega⟩) = p8 (ix2 k n) := by
  show catF p0 p1 p2 p3 p4 p5 p6 p7 p8 p9 p10 p11 p12 p13 p14 p15 (ix2 k ⟨1792 + n.val, by omega⟩) = _
  unfold catF
  refine concatenate_apply_piece (t := S1024x4992) _ _ _ _ 8 ?_ S1024x128 p8 ?_ (rfl : S1024x128.rank = S1024x4992.rank) 1792 ?_ (ix2 k n) ?_ ?_
  · show 8 < 16; omega
  · rfl
  · rfl
  · rintro ⟨_ | _ | b, hb'⟩ hb
    · rfl
    · exact absurd rfl hb
    · exact absurd hb' (by simp)
  · rfl
/-- Block 9. -/
theorem cat16_9 (n : Fin 128) : cat16 p0 p1 p2 p3 p4 p5 p6 p7 p8 p9 p10 p11 p12 p13 p14 p15 (ix2 k ⟨1920 + n.val, by omega⟩) = p9 (ix2 k n) := by
  show catF p0 p1 p2 p3 p4 p5 p6 p7 p8 p9 p10 p11 p12 p13 p14 p15 (ix2 k ⟨1920 + n.val, by omega⟩) = _
  unfold catF
  refine concatenate_apply_piece (t := S1024x4992) _ _ _ _ 9 ?_ S1024x128 p9 ?_ (rfl : S1024x128.rank = S1024x4992.rank) 1920 ?_ (ix2 k n) ?_ ?_
  · show 9 < 16; omega
  · rfl
  · rfl
  · rintro ⟨_ | _ | b, hb'⟩ hb
    · rfl
    · exact absurd rfl hb
    · exact absurd hb' (by simp)
  · rfl
/-- Block 10. -/
theorem cat16_10 (n : Fin 128) : cat16 p0 p1 p2 p3 p4 p5 p6 p7 p8 p9 p10 p11 p12 p13 p14 p15 (ix2 k ⟨2048 + n.val, by omega⟩) = p10 (ix2 k n) := by
  show catF p0 p1 p2 p3 p4 p5 p6 p7 p8 p9 p10 p11 p12 p13 p14 p15 (ix2 k ⟨2048 + n.val, by omega⟩) = _
  unfold catF
  refine concatenate_apply_piece (t := S1024x4992) _ _ _ _ 10 ?_ S1024x128 p10 ?_ (rfl : S1024x128.rank = S1024x4992.rank) 2048 ?_ (ix2 k n) ?_ ?_
  · show 10 < 16; omega
  · rfl
  · rfl
  · rintro ⟨_ | _ | b, hb'⟩ hb
    · rfl
    · exact absurd rfl hb
    · exact absurd hb' (by simp)
  · rfl
/-- Block 11. -/
theorem cat16_11 (n : Fin 128) : cat16 p0 p1 p2 p3 p4 p5 p6 p7 p8 p9 p10 p11 p12 p13 p14 p15 (ix2 k ⟨2176 + n.val, by omega⟩) = p11 (ix2 k n) := by
  show catF p0 p1 p2 p3 p4 p5 p6 p7 p8 p9 p10 p11 p12 p13 p14 p15 (ix2 k ⟨2176 + n.val, by omega⟩) = _
  unfold catF
  refine concatenate_apply_piece (t := S1024x4992) _ _ _ _ 11 ?_ S1024x128 p11 ?_ (rfl : S1024x128.rank = S1024x4992.rank) 2176 ?_ (ix2 k n) ?_ ?_
  · show 11 < 16; omega
  · rfl
  · rfl
  · rintro ⟨_ | _ | b, hb'⟩ hb
    · rfl
    · exact absurd rfl hb
    · exact absurd hb' (by simp)
  · rfl
set_option maxHeartbeats 2000000 in
/-- Block 12. -/
theorem cat16_12 (n : Fin 512) : cat16 p0 p1 p2 p3 p4 p5 p6 p7 p8 p9 p10 p11 p12 p13 p14 p15 (ix2 k ⟨2304 + n.val, by omega⟩) = p12 (ix2 k n) := by
  show catF p0 p1 p2 p3 p4 p5 p6 p7 p8 p9 p10 p11 p12 p13 p14 p15 (ix2 k ⟨2304 + n.val, by omega⟩) = _
  unfold catF
  refine concatenate_apply_piece (t := S1024x4992) _ _ _ _ 12 ?_ S1024x512 p12 ?_ (rfl : S1024x512.rank = S1024x4992.rank) 2304 ?_ (ix2 k n) ?_ ?_
  · show 12 < 16; omega
  · rfl
  · simp only [List.take_succ_cons, List.take_zero, List.map_cons, List.map_nil, dif_pos, List.sum_cons, List.sum_nil]
    rfl
  · rintro ⟨_ | _ | b, hb'⟩ hb
    · rfl
    · exact absurd rfl hb
    · exact absurd hb' (by simp)
  · rfl
set_option maxHeartbeats 2000000 in
/-- Block 13. -/
theorem cat16_13 (n : Fin 128) : cat16 p0 p1 p2 p3 p4 p5 p6 p7 p8 p9 p10 p11 p12 p13 p14 p15 (ix2 k ⟨2816 + n.val, by omega⟩) = p13 (ix2 k n) := by
  show catF p0 p1 p2 p3 p4 p5 p6 p7 p8 p9 p10 p11 p12 p13 p14 p15 (ix2 k ⟨2816 + n.val, by omega⟩) = _
  unfold catF
  refine concatenate_apply_piece (t := S1024x4992) _ _ _ _ 13 ?_ S1024x128 p13 ?_ (rfl : S1024x128.rank = S1024x4992.rank) 2816 ?_ (ix2 k n) ?_ ?_
  · show 13 < 16; omega
  · rfl
  · simp only [List.take_succ_cons, List.take_zero, List.map_cons, List.map_nil, dif_pos, List.sum_cons, List.sum_nil]
    rfl
  · rintro ⟨_ | _ | b, hb'⟩ hb
    · rfl
    · exact absurd rfl hb
    · exact absurd hb' (by simp)
  · rfl
set_option maxHeartbeats 2000000 in
/-- Block 14. -/
theorem cat16_14 (n : Fin 1024) : cat16 p0 p1 p2 p3 p4 p5 p6 p7 p8 p9 p10 p11 p12 p13 p14 p15 (ix2 k ⟨2944 + n.val, by omega⟩) = p14 (ix2 k n) := by
  show catF p0 p1 p2 p3 p4 p5 p6 p7 p8 p9 p10 p11 p12 p13 p14 p15 (ix2 k ⟨2944 + n.val, by omega⟩) = _
  unfold catF
  refine concatenate_apply_piece (t := S1024x4992) _ _ _ _ 14 ?_ S1024x1024 p14 ?_ (rfl : S1024x1024.rank = S1024x4992.rank) 2944 ?_ (ix2 k n) ?_ ?_
  · show 14 < 16; omega
  · rfl
  · simp only [List.take_succ_cons, List.take_zero, List.map_cons, List.map_nil, dif_pos, List.sum_cons, List.sum_nil]
    rfl
  · rintro ⟨_ | _ | b, hb'⟩ hb
    · rfl
    · exact absurd rfl hb
    · exact absurd hb' (by simp)
  · rfl
set_option maxHeartbeats 2000000 in
/-- Block 15. -/
theorem cat16_15 (n : Fin 1024) : cat16 p0 p1 p2 p3 p4 p5 p6 p7 p8 p9 p10 p11 p12 p13 p14 p15 (ix2 k ⟨3968 + n.val, by omega⟩) = p15 (ix2 k n) := by
  show catF p0 p1 p2 p3 p4 p5 p6 p7 p8 p9 p10 p11 p12 p13 p14 p15 (ix2 k ⟨3968 + n.val, by omega⟩) = _
  unfold catF
  refine concatenate_apply_piece (t := S1024x4992) _ _ _ _ 15 ?_ S1024x1024 p15 ?_ (rfl : S1024x1024.rank = S1024x4992.rank) 3968 ?_ (ix2 k n) ?_ ?_
  · show 15 < 16; omega
  · rfl
  · simp only [List.take_succ_cons, List.take_zero, List.map_cons, List.map_nil, dif_pos, List.sum_cons, List.sum_nil]
    rfl
  · rintro ⟨_ | _ | b, hb'⟩ hb
    · rfl
    · exact absurd rfl hb
    · exact absurd hb' (by simp)
  · rfl
end

section
variable (p0 : FVec Ideal S512 .f32) (p1 : FVec Ideal S128 .f32) (p2 : FVec Ideal S128 .f32) (p3 : FVec Ideal S512 .f32) (p4 : FVec Ideal S128 .f32)
/-- Five gain vectors in a row. -/
def cat5 : FVec Ideal S1x1408 .f32 := shapeCast S1x1408 (concatenate S1408 0 [⟨S512, p0⟩, ⟨S128, p1⟩, ⟨S128, p2⟩, ⟨S512, p3⟩, ⟨S128, p4⟩]
    concatenates_S512_S128_S128_S512_S128_S1408_d0) shapeCasts_S1408_S1x1408
/-- Piece 0. -/
theorem cat5_0 (n : Fin 512) : cat5 p0 p1 p2 p3 p4 (ix2 0 ⟨n.val, by omega⟩) = p0 (ix1 n) := by
  unfold cat5
  pointwise
  repeat (first | rw [dif_neg (by omega)] | rw [dif_pos (by omega)])
  first | done | rfl | (congr 2; apply Fin.ext; dsimp only; omega)
/-- Piece 1. -/
theorem cat5_1 (n : Fin 128) : cat5 p0 p1 p2 p3 p4 (ix2 0 ⟨512 + n.val, by omega⟩) = p1 (ix1 n) := by
  unfold cat5
  pointwise
  repeat (first | rw [dif_neg (by omega)] | rw [dif_pos (by omega)])
  first | done | rfl | (congr 2; apply Fin.ext; dsimp only; omega)
/-- Piece 2. -/
theorem cat5_2 (n : Fin 128) : cat5 p0 p1 p2 p3 p4 (ix2 0 ⟨640 + n.val, by omega⟩) = p2 (ix1 n) := by
  unfold cat5
  pointwise
  repeat (first | rw [dif_neg (by omega)] | rw [dif_pos (by omega)])
  first | done | rfl | (congr 2; apply Fin.ext; dsimp only; omega)
/-- Piece 3. -/
theorem cat5_3 (n : Fin 512) : cat5 p0 p1 p2 p3 p4 (ix2 0 ⟨768 + n.val, by omega⟩) = p3 (ix1 n) := by
  unfold cat5
  pointwise
  repeat (first | rw [dif_neg (by omega)] | rw [dif_pos (by omega)])
  first | done | rfl | (congr 2; apply Fin.ext; dsimp only; omega)
/-- Piece 4. -/
theorem cat5_4 (n : Fin 128) : cat5 p0 p1 p2 p3 p4 (ix2 0 ⟨1280 + n.val, by omega⟩) = p4 (ix1 n) := by
  unfold cat5
  pointwise
  repeat (first | rw [dif_neg (by omega)] | rw [dif_pos (by omega)])
  first | done | rfl | (congr 2; apply Fin.ext; dsimp only; omega)
end

section
variable (c : Dev nD)
/-- Columns of the weights: the first branch's queries, the pair of a head outermost. -/
theorem w_qa (k : Fin 1024) (n : Fin 512) :
    V m c main_v27 (ix2 k ⟨n.val, by omega⟩) = ar3 m c (ix2 k ⟨(n.val / 64 % 2 * 4 + n.val / 128) * 64 + n.val % 64, by omega⟩) := by
  simp only [V, List.flatten_cons, List.flatten_nil, List.append_nil]
  after_reads_simp
  refine (cat16_0 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
  exact congrArg (ar3 m c) (congrArg (ix2 k) (Fin.ext (by dsimp only; omega)))
/-- Columns of the weights: the compressed branch's keys. -/
theorem w_mid0 (k : Fin 1024) (n : Fin 128) :
    V m c main_v27 (ix2 k ⟨512 + n.val, by omega⟩) = ar3 m c (ix2 k ⟨512 + n.val, by omega⟩) := by
  simp only [V, List.flatten_cons, List.flatten_nil, List.append_nil]
  after_reads_simp
  refine (cat16_1 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: its values. -/
theorem w_mid1 (k : Fin 1024) (n : Fin 128) :
    V m c main_v27 (ix2 k ⟨640 + n.val, by omega⟩) = ar3 m c (ix2 k ⟨640 + n.val, by omega⟩) := by
  simp only [V, List.flatten_cons, List.flatten_nil, List.append_nil]
  after_reads_simp
  refine (cat16_2 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the selected keys. -/
theorem w_mid2 (k : Fin 1024) (n : Fin 128) :
    V m c main_v27 (ix2 k ⟨768 + n.val, by omega⟩) = ar3 m c (ix2 k ⟨768 + n.val, by omega⟩) := by
  simp only [V, List.flatten_cons, List.flatten_nil, List.append_nil]
  after_reads_simp
  refine (cat16_3 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the selected values. -/
theorem w_mid3 (k : Fin 1024) (n : Fin 128) :
    V m c main_v27 (ix2 k ⟨896 + n.val, by omega⟩) = ar3 m c (ix2 k ⟨896 + n.val, by omega⟩) := by
  simp only [V, List.flatten_cons, List.flatten_nil, List.append_nil]
  after_reads_simp
  refine (cat16_4 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the window's keys. -/
theorem w_mid4 (k : Fin 1024) (n : Fin 128) :
    V m c main_v27 (ix2 k ⟨1024 + n.val, by omega⟩) = ar3 m c (ix2 k ⟨1024 + n.val, by omega⟩) := by
  simp only [V, List.flatten_cons, List.flatten_nil, List.append_nil]
  after_reads_simp
  refine (cat16_5 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the window's values. -/
theorem w_mid5 (k : Fin 1024) (n : Fin 128) :
    V m c main_v27 (ix2 k ⟨1152 + n.val, by omega⟩) = ar3 m c (ix2 k ⟨1152 + n.val, by omega⟩) := by
  simp only [V, List.flatten_cons, List.flatten_nil, List.append_nil]
  after_reads_simp
  refine (cat16_6 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the second branch's queries. -/
theorem w_qb (k : Fin 1024) (n : Fin 512) :
    V m c main_v27 (ix2 k ⟨1280 + n.val, by omega⟩) = ar3 m c (ix2 k ⟨1304 + n.val, by omega⟩) := by
  simp only [V, List.flatten_cons, List.flatten_nil, List.append_nil]
  after_reads_simp
  refine (cat16_7 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: its keys, twice. -/
theorem w_kb (k : Fin 1024) (n : Fin 128) :
    V m c main_v27 (ix2 k ⟨1792 + n.val, by omega⟩) = ar3 m c (ix2 k ⟨1816 + n.val % 64, by omega⟩) := by
  simp only [V, List.flatten_cons, List.flatten_nil, List.append_nil]
  after_reads_simp
  refine (cat16_8 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
  split
  · exact congrArg (ar3 m c) (congrArg (ix2 k) (Fin.ext (by dsimp only; omega)))
  · exact congrArg (ar3 m c) (congrArg (ix2 k) (Fin.ext (by dsimp only; omega)))
/-- Columns of the weights: its values, twice. -/
theorem w_vb (k : Fin 1024) (n : Fin 128) :
    V m c main_v27 (ix2 k ⟨1920 + n.val, by omega⟩) = ar3 m c (ix2 k ⟨1880 + n.val % 64, by omega⟩) := by
  simp only [V, List.flatten_cons, List.flatten_nil, List.append_nil]
  after_reads_simp
  refine (cat16_9 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
  split
  · exact congrArg (ar3 m c) (congrArg (ix2 k) (Fin.ext (by dsimp only; omega)))
  · exact congrArg (ar3 m c) (congrArg (ix2 k) (Fin.ext (by dsimp only; omega)))
/-- Columns of the weights: the indexer's keys, twice. -/
theorem w_ik (k : Fin 1024) (n : Fin 128) :
    V m c main_v27 (ix2 k ⟨2048 + n.val, by omega⟩) = ar3 m c (ix2 k ⟨2456 + n.val % 64, by omega⟩) := by
  simp only [V, List.flatten_cons, List.flatten_nil, List.append_nil]
  after_reads_simp
  refine (cat16_10 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
  split
  · exact congrArg (ar3 m c) (congrArg (ix2 k) (Fin.ext (by dsimp only; omega)))
  · exact congrArg (ar3 m c) (congrArg (ix2 k) (Fin.ext (by dsimp only; omega)))
/-- Columns of the weights: the indexer's head weights. -/
theorem w_iw (k : Fin 1024) (n : Fin 8) :
    V m c main_v27 (ix2 k ⟨2176 + n.val, by omega⟩) = ar3 m c (ix2 k ⟨2520 + n.val, by omega⟩) := by
  simp only [V, List.flatten_cons, List.flatten_nil, List.append_nil]
  after_reads_simp
  refine (cat16_11 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: zeros. -/
theorem w_iw0 (k : Fin 1024) (n : Fin 120) :
    V m c main_v27 (ix2 k ⟨2176 + (8 + n.val), by omega⟩) = (0 : EReal) := by
  simp only [V, List.flatten_cons, List.flatten_nil, List.append_nil]
  after_reads_simp
  refine (cat16_11 _ _ _ _ _ _ _ _ _ _ _ _ _ _ _ _ k ⟨8 + n.val, by omega⟩).trans ?_
  simp only [Matrix.cons_val]
  after_reads_simp
  try simp only [StableHlo.TRef.toBuf, StableHlo.TRef.ofBuf, cast_cast, cast_eq]
  pointwise
  show ((((0#32 : BitVec 32).toInt : ℤ) : ℝ) : EReal) = 0
  simp
/-- Columns of the weights: the indexer's queries, times an eighth. -/
theorem w_iq (k : Fin 1024) (n : Fin 512) :
    V m c main_v27 (ix2 k ⟨2304 + n.val, by omega⟩) = ar3 m c (ix2 k ⟨1944 + n.val, by omega⟩) * Ideal.ofBits .f32 0x3E000000#32 := by
  simp only [V, List.flatten_cons, List.flatten_nil, List.append_nil]
  after_reads_simp
  refine (cat16_12 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the branch gates. -/
theorem w_gn (k : Fin 1024) (n : Fin 24) :
    V m c main_v27 (ix2 k ⟨2816 + n.val, by omega⟩) = ar3 m c (ix2 k ⟨1280 + n.val, by omega⟩) := by
  simp only [V, List.flatten_cons, List.flatten_nil, List.append_nil]
  after_reads_simp
  refine (cat16_13 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: zeros. -/
theorem w_gn0 (k : Fin 1024) (n : Fin 104) :
    V m c main_v27 (ix2 k ⟨2816 + (24 + n.val), by omega⟩) = (0 : EReal) := by
  simp only [V, List.flatten_cons, List.flatten_nil, List.append_nil]
  after_reads_simp
  refine (cat16_13 _ _ _ _ _ _ _ _ _ _ _ _ _ _ _ _ k ⟨24 + n.val, by omega⟩).trans ?_
  simp only [Matrix.cons_val]
  after_reads_simp
  try simp only [StableHlo.TRef.toBuf, StableHlo.TRef.ofBuf, cast_cast, cast_eq]
  pointwise
  show ((((0#32 : BitVec 32).toInt : ℤ) : ℝ) : EReal) = 0
  simp
/-- Columns of the weights: the first output gate. -/
theorem w_ga (k : Fin 1024) (n : Fin 1024) :
    V m c main_v27 (ix2 k ⟨2944 + n.val, by omega⟩) = ar3 m c (ix2 k ⟨2528 + n.val, by omega⟩) := by
  simp only [V, List.flatten_cons, List.flatten_nil, List.append_nil]
  after_reads_simp
  refine (cat16_14 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- Columns of the weights: the second output gate. -/
theorem w_gb (k : Fin 1024) (n : Fin 1024) :
    V m c main_v27 (ix2 k ⟨3968 + n.val, by omega⟩) = ar3 m c (ix2 k ⟨3552 + n.val, by omega⟩) := by
  simp only [V, List.flatten_cons, List.flatten_nil, List.append_nil]
  after_reads_simp
  refine (cat16_15 _ _ _ _ _ _ _ _ _ _ _ _ _ _ _ _ k ⟨n.val, by omega⟩).trans ?_
  simp only [Matrix.cons_val]
  after_reads_simp
  try simp only [StableHlo.TRef.toBuf, StableHlo.TRef.ofBuf, cast_cast, cast_eq]
  pointwise
/-- A gain, repeated per head. -/
theorem g_qa (n : Fin 512) :
    V m c main_v48 (ix2 0 ⟨n.val, by omega⟩) = ar4 m c (ix1 ⟨n.val % 64, by omega⟩) * Ideal.ofBits .f32 0x3E000000#32 := by
  simp only [V, List.flatten_cons, List.flatten_nil, List.append_nil]
  after_reads_simp
  refine (cat5_0 _ _ _ _ _ n).trans ?_
  simp only [Matrix.cons_val]
  after_reads_simp
  try simp only [StableHlo.TRef.toBuf, StableHlo.TRef.ofBuf, cast_cast, cast_eq]
  pointwise
/-- A gain, repeated per head. -/
theorem g_ks (n : Fin 128) :
    V m c main_v48 (ix2 0 ⟨512 + n.val, by omega⟩) = ar5 m c (ix1 ⟨n.val % 64, by omega⟩) := by
  simp only [V, List.flatten_cons, List.flatten_nil, List.append_nil]
  after_reads_simp
  refine (cat5_1 _ _ _ _ _ n).trans ?_
  simp only [Matrix.cons_val]
  after_reads_simp
  try simp only [StableHlo.TRef.toBuf, StableHlo.TRef.ofBuf, cast_cast, cast_eq]
  pointwise
/-- A gain, repeated per head. -/
theorem g_kw (n : Fin 128) :
    V m c main_v48 (ix2 0 ⟨640 + n.val, by omega⟩) = ar6 m c (ix1 ⟨n.val % 64, by omega⟩) := by
  simp only [V, List.flatten_cons, List.flatten_nil, List.append_nil]
  after_reads_simp
  refine (cat5_2 _ _ _ _ _ n).trans ?_
  simp only [Matrix.cons_val]
  after_reads_simp
  try simp only [StableHlo.TRef.toBuf, StableHlo.TRef.ofBuf, cast_cast, cast_eq]
  pointwise
/-- A gain, repeated per head. -/
theorem g_qb (n : Fin 512) :
    V m c main_v48 (ix2 0 ⟨768 + n.val, by omega⟩) = ar7 m c (ix1 ⟨n.val % 64, by omega⟩) * Ideal.ofBits .f32 0x3E000000#32 := by
  simp only [V, List.flatten_cons, List.flatten_nil, List.append_nil]
  after_reads_simp
  refine (cat5_3 _ _ _ _ _ n).trans ?_
  simp only [Matrix.cons_val]
  after_reads_simp
  try simp only [StableHlo.TRef.toBuf, StableHlo.TRef.ofBuf, cast_cast, cast_eq]
  pointwise
/-- A gain, repeated per head. -/
theorem g_kb (n : Fin 128) :
    V m c main_v48 (ix2 0 ⟨1280 + n.val, by omega⟩) = ar8 m c (ix1 ⟨n.val % 64, by omega⟩) := by
  simp only [V, List.flatten_cons, List.flatten_nil, List.append_nil]
  after_reads_simp
  refine (cat5_4 _ _ _ _ _ n).trans ?_
  simp only [Matrix.cons_val]
  after_reads_simp
  try simp only [StableHlo.TRef.toBuf, StableHlo.TRef.ofBuf, cast_cast, cast_eq]
  pointwise
/-- A column number shifted right by six is its head. -/
theorem shr6 : ∀ a : Fin 256, IntOp.shrsi ArithUnit.host (BitVec.ofNat 32 a.val) 6#32 = BitVec.ofNat 32 (a.val / 64) := by decide +kernel
/-- Two heads compared. -/
theorem cmp4 : ∀ x y : Fin 4, IntOp.cmpi CmpIPredicate.eq (BitVec.ofNat 32 x.val) (BitVec.ofNat 32 y.val)
    = if x.val = y.val then 1#1 else 0#1 := by decide +kernel
/-- The matrix of means: a sixty-fourth inside a head's block, zero outside. -/
theorem bd (a b : Fin 256) :
    V m c main_v57 (ix2 a b) = (if a.val / 64 = b.val / 64 then Ideal.ofBits .f32 0x3C800000#32 else 0 : EReal) := by
  simp only [V, List.flatten_cons, List.flatten_nil, List.append_nil]
  after_reads_simp
  simp only [StableHlo.TRef.toBuf, StableHlo.TRef.ofBuf, cast_cast, cast_eq]
  pointwise
  rw [shr6, shr6, cmp4 ⟨a.val / 64, by omega⟩ ⟨b.val / 64, by omega⟩]
  dsimp only
  split <;> rfl
end
end Cert.Kernel2Ideal.InValue

end
-- ==== Proof.InCols.lean ====
/-
  The blocks that the input projection's body reads, put together: its columns are those of the row's projection, its gains
  those of the five norms, its matrix that of the heads' means.
-/
module

public import proofs.«01_k».proof.Defs
public import proofs.«01_k».proof.Proof.Gen.Kernel2Ideal.Value
public import proofs.«01_k».proof.Proof.InReads
public import Idealize.ShloMosaic.Lib.Pipeline.ValueKit

@[expose] public section

set_option maxRecDepth 16384

noncomputable section

namespace Cert.Kernel2Ideal.InValue

open Cert.Kernel2Ideal Cert.Kernel2Ideal.Gen Cert.PostSpec Cert.InSpec
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The normalised, modulated row of token `s` of batch `b`. -/
def hrow (b : Fin 32) (s : Fin 2048) : Fin 1024 → EReal :=
  h2Row (fun k => m ((c.tc : Thread nD τ).loc main_arg0) (ix3 b s k)) (fun k => m ((c.tc : Thread nD τ).loc main_arg2) (ix1 k))
    (fun k => m ((c.tc : Thread nD τ).loc main_arg1) (ix2 b ⟨1024 + k.val, by omega⟩))
    (fun k => m ((c.tc : Thread nD τ).loc main_arg1) (ix2 b ⟨k.val, by omega⟩))
/-- Its projection. -/
def proj (b : Fin 32) (s : Fin 2048) (n : Fin 4576) : EReal := dotRow (hrow m c b s) (fun k => ar3 m c (ix2 k n))

/-- The body's normalised block is made of these rows. -/
theorem hh_apply (r : Fin 512) (k : Fin 1024) :
    k0_pay60 (grid0.coords t) (iblk m c 0 t) (iblk m c 1 t) (iblk m c 2 t) (iblk m c 3 t) (iblk m c 4 t) (iblk m c 5 t) (ix2 r k)
      = hrow m c (bt t) (row t r) k := by
  refine (h_apply _ _ _ _ _ _ _ r k).trans ?_
  simp only [rd0, rd1a, rd1b, rd2]
  rfl

/-- A column of the body's product. -/
theorem seg_col (r : Fin 512) (a : Fin 4992) (w : Fin 1024 → EReal) (h : ∀ k, V m c main_v27 (ix2 k a) = w k) :
    seg (k0_pay60 (grid0.coords t) (iblk m c 0 t) (iblk m c 1 t) (iblk m c 2 t) (iblk m c 3 t) (iblk m c 4 t) (iblk m c 5 t))
      (iblk m c 3 t) r a = dotRow (hrow m c (bt t) (row t r)) w := by
  unfold seg dotRow
  refine Finset.sum_congr rfl fun k _ => ?_
  rw [hh_apply]
  exact congrArg (hrow m c (bt t) (row t r) k * ·) ((rd3 m c t k a).trans (h k))

/-- A column of zeros. -/
theorem dotRow_zero (h : Fin 1024 → EReal) : dotRow h (fun _ => 0) = 0 := by
  unfold dotRow; simp only [mul_zero, Finset.sum_const_zero]

/-- The columns of the body's product. -/
theorem cols (r : Fin 512) : Cols (seg (k0_pay60 (grid0.coords t) (iblk m c 0 t) (iblk m c 1 t) (iblk m c 2 t) (iblk m c 3 t)
    (iblk m c 4 t) (iblk m c 5 t)) (iblk m c 3 t) r) (proj m c (bt t) (row t r)) where
  qa a b h1 h2 := seg_col m c t r a (fun k => ar3 m c (ix2 k b)) fun k =>
      ((congrArg (fun z => V m c main_v27 (ix2 k z)) (rfl : a = ⟨(⟨a.val, by omega⟩ : Fin 512).val, by dsimp only; omega⟩)).trans (w_qa m c k ⟨a.val, by omega⟩)).trans (congrArg (fun z => ar3 m c (ix2 k z)) (Fin.ext (by dsimp only; omega)))
  mid a b h1 h2 h3 := by
    by_cases d0 : a.val < 640
    · exact seg_col m c t r a (fun k => ar3 m c (ix2 k b)) fun k =>
      ((congrArg (fun z => V m c main_v27 (ix2 k z)) (Fin.ext (by dsimp only; omega) : a = ⟨512 + (⟨a.val - 512, by omega⟩ : Fin 128).val, by dsimp only; omega⟩)).trans (w_mid0 m c k ⟨a.val - 512, by omega⟩)).trans (congrArg (fun z => ar3 m c (ix2 k z)) (Fin.ext (by dsimp only; omega)))
    by_cases d1 : a.val < 768
    · exact seg_col m c t r a (fun k => ar3 m c (ix2 k b)) fun k =>
      ((congrArg (fun z => V m c main_v27 (ix2 k z)) (Fin.ext (by dsimp only; omega) : a = ⟨640 + (⟨a.val - 640, by omega⟩ : Fin 128).val, by dsimp only; omega⟩)).trans (w_mid1 m c k ⟨a.val - 640, by omega⟩)).trans (congrArg (fun z => ar3 m c (ix2 k z)) (Fin.ext (by dsimp only; omega)))
    by_cases d2 : a.val < 896
    · exact seg_col m c t r a (fun k => ar3 m c (ix2 k b)) fun k =>
      ((congrArg (fun z => V m c main_v27 (ix2 k z)) (Fin.ext (by dsimp only; omega) : a = ⟨768 + (⟨a.val - 768, by omega⟩ : Fin 128).val, by dsimp only; omega⟩)).trans (w_mid2 m c k ⟨a.val - 768, by omega⟩)).trans (congrArg (fun z => ar3 m c (ix2 k z)) (Fin.ext (by dsimp only; omega)))
    by_cases d3 : a.val < 1024
    · exact seg_col m c t r a (fun k => ar3 m c (ix2 k b)) fun k =>
      ((congrArg (fun z => V m c main_v27 (ix2 k z)) (Fin.ext (by dsimp only; omega) : a = ⟨896 + (⟨a.val - 896, by omega⟩ : Fin 128).val, by dsimp only; omega⟩)).trans (w_mid3 m c k ⟨a.val - 896, by omega⟩)).trans (congrArg (fun z => ar3 m c (ix2 k z)) (Fin.ext (by dsimp only; omega)))
    by_cases d4 : a.val < 1152
    · exact seg_col m c t r a (fun k => ar3 m c (ix2 k b)) fun k =>
      ((congrArg (fun z => V m c main_v27 (ix2 k z)) (Fin.ext (by dsimp only; omega) : a = ⟨1024 + (⟨a.val - 1024, by omega⟩ : Fin 128).val, by dsimp only; omega⟩)).trans (w_mid4 m c k ⟨a.val - 1024, by omega⟩)).trans (congrArg (fun z => ar3 m c (ix2 k z)) (Fin.ext (by dsimp only; omega)))
    exact seg_col m c t r a (fun k => ar3 m c (ix2 k b)) fun k =>
      ((congrArg (fun z => V m c main_v27 (ix2 k z)) (Fin.ext (by dsimp only; omega) : a = ⟨1152 + (⟨a.val - 1152, by omega⟩ : Fin 128).val, by dsimp only; omega⟩)).trans (w_mid5 m c k ⟨a.val - 1152, by omega⟩)).trans (congrArg (fun z => ar3 m c (ix2 k z)) (Fin.ext (by dsimp only; omega)))
  qb a b h1 h2 h3 := seg_col m c t r a (fun k => ar3 m c (ix2 k b)) fun k =>
      ((congrArg (fun z => V m c main_v27 (ix2 k z)) (Fin.ext (by dsimp only; omega) : a = ⟨1280 + (⟨a.val - 1280, by omega⟩ : Fin 512).val, by dsimp only; omega⟩)).trans (w_qb m c k ⟨a.val - 1280, by omega⟩)).trans (congrArg (fun z => ar3 m c (ix2 k z)) (Fin.ext (by dsimp only; omega)))
  kb a b h1 h2 h3 := seg_col m c t r a (fun k => ar3 m c (ix2 k b)) fun k =>
      ((congrArg (fun z => V m c main_v27 (ix2 k z)) (Fin.ext (by dsimp only; omega) : a = ⟨1792 + (⟨a.val - 1792, by omega⟩ : Fin 128).val, by dsimp only; omega⟩)).trans (w_kb m c k ⟨a.val - 1792, by omega⟩)).trans (congrArg (fun z => ar3 m c (ix2 k z)) (Fin.ext (by dsimp only; omega)))
  vb a b h1 h2 h3 := seg_col m c t r a (fun k => ar3 m c (ix2 k b)) fun k =>
      ((congrArg (fun z => V m c main_v27 (ix2 k z)) (Fin.ext (by dsimp only; omega) : a = ⟨1920 + (⟨a.val - 1920, by omega⟩ : Fin 128).val, by dsimp only; omega⟩)).trans (w_vb m c k ⟨a.val - 1920, by omega⟩)).trans (congrArg (fun z => ar3 m c (ix2 k z)) (Fin.ext (by dsimp only; omega)))
  ik a b h1 h2 h3 := seg_col m c t r a (fun k => ar3 m c (ix2 k b)) fun k =>
      ((congrArg (fun z => V m c main_v27 (ix2 k z)) (Fin.ext (by dsimp only; omega) : a = ⟨2048 + (⟨a.val - 2048, by omega⟩ : Fin 128).val, by dsimp only; omega⟩)).trans (w_ik m c k ⟨a.val - 2048, by omega⟩)).trans (congrArg (fun z => ar3 m c (ix2 k z)) (Fin.ext (by dsimp only; omega)))
  iw a b h1 h2 h3 := seg_col m c t r a (fun k => ar3 m c (ix2 k b)) fun k =>
      ((congrArg (fun z => V m c main_v27 (ix2 k z)) (Fin.ext (by dsimp only; omega) : a = ⟨2176 + (⟨a.val - 2176, by omega⟩ : Fin 8).val, by dsimp only; omega⟩)).trans (w_iw m c k ⟨a.val - 2176, by omega⟩)).trans (congrArg (fun z => ar3 m c (ix2 k z)) (Fin.ext (by dsimp only; omega)))
  iw0 a h1 h2 := (seg_col m c t r a (fun _ => 0) fun k =>
      ((congrArg (fun z => V m c main_v27 (ix2 k z)) (Fin.ext (by dsimp only; omega) : a = ⟨2176 + (8 + (⟨a.val - 2184, by omega⟩ : Fin 120).val), by dsimp only; omega⟩)).trans (w_iw0 m c k ⟨a.val - 2184, by omega⟩))).trans (dotRow_zero _)
  iq a b h1 h2 h3 := (seg_col m c t r a (fun k => ar3 m c (ix2 k b) * Ideal.ofBits .f32 0x3E000000#32) fun k =>
      ((congrArg (fun z => V m c main_v27 (ix2 k z)) (Fin.ext (by dsimp only; omega) : a = ⟨2304 + (⟨a.val - 2304, by omega⟩ : Fin 512).val, by dsimp only; omega⟩)).trans (w_iq m c k ⟨a.val - 2304, by omega⟩)).trans (congrArg (fun z => ar3 m c (ix2 k z) * Ideal.ofBits .f32 0x3E000000#32) (Fin.ext (by dsimp only; omega)))).trans (dotRow_eighth _ _)
  gn a b h1 h2 h3 := seg_col m c t r a (fun k => ar3 m c (ix2 k b)) fun k =>
      ((congrArg (fun z => V m c main_v27 (ix2 k z)) (Fin.ext (by dsimp only; omega) : a = ⟨2816 + (⟨a.val - 2816, by omega⟩ : Fin 24).val, by dsimp only; omega⟩)).trans (w_gn m c k ⟨a.val - 2816, by omega⟩)).trans (congrArg (fun z => ar3 m c (ix2 k z)) (Fin.ext (by dsimp only; omega)))
  gn0 a h1 h2 := (seg_col m c t r a (fun _ => 0) fun k =>
      ((congrArg (fun z => V m c main_v27 (ix2 k z)) (Fin.ext (by dsimp only; omega) : a = ⟨2816 + (24 + (⟨a.val - 2840, by omega⟩ : Fin 104).val), by dsimp only; omega⟩)).trans (w_gn0 m c k ⟨a.val - 2840, by omega⟩))).trans (dotRow_zero _)
  gate a b h1 h2 := by
    by_cases d : a.val < 3968
    · exact seg_col m c t r a (fun k => ar3 m c (ix2 k b)) fun k =>
      ((congrArg (fun z => V m c main_v27 (ix2 k z)) (Fin.ext (by dsimp only; omega) : a = ⟨2944 + (⟨a.val - 2944, by omega⟩ : Fin 1024).val, by dsimp only; omega⟩)).trans (w_ga m c k ⟨a.val - 2944, by omega⟩)).trans (congrArg (fun z => ar3 m c (ix2 k z)) (Fin.ext (by dsimp only; omega)))
    exact seg_col m c t r a (fun k => ar3 m c (ix2 k b)) fun k =>
      ((congrArg (fun z => V m c main_v27 (ix2 k z)) (Fin.ext (by dsimp only; omega) : a = ⟨3968 + (⟨a.val - 3968, by omega⟩ : Fin 1024).val, by dsimp only; omega⟩)).trans (w_gb m c k ⟨a.val - 3968, by omega⟩)).trans (congrArg (fun z => ar3 m c (ix2 k z)) (Fin.ext (by dsimp only; omega)))

/-- The gains that the body reads. -/
theorem gains : Gains (fun n => iblk m c 5 t (ix2 0 n)) (fun j => ar4 m c (ix1 j)) (fun j => ar5 m c (ix1 j)) (fun j => ar6 m c (ix1 j))
    (fun j => ar7 m c (ix1 j)) (fun j => ar8 m c (ix1 j)) where
  qa a d h1 h2 := (rd5 m c t a).trans (((congrArg (fun z => V m c main_v48 (ix2 0 z)) (rfl : a = ⟨(⟨a.val, by omega⟩ : Fin 512).val, by dsimp only; omega⟩)).trans
      (g_qa m c ⟨a.val, by omega⟩)).trans (congrArg (fun z => ar4 m c (ix1 z) * Ideal.ofBits .f32 0x3E000000#32) (Fin.ext (by dsimp only; omega))))
  ks a d h1 h2 h3 := (rd5 m c t a).trans (((congrArg (fun z => V m c main_v48 (ix2 0 z)) (Fin.ext (by dsimp only; omega) : a = ⟨512 + (⟨a.val - 512, by omega⟩ : Fin 128).val, by dsimp only; omega⟩)).trans
      (g_ks m c ⟨a.val - 512, by omega⟩)).trans (congrArg (fun z => ar5 m c (ix1 z)) (Fin.ext (by dsimp only; omega))))
  kw a d h1 h2 h3 := (rd5 m c t a).trans (((congrArg (fun z => V m c main_v48 (ix2 0 z)) (Fin.ext (by dsimp only; omega) : a = ⟨640 + (⟨a.val - 640, by omega⟩ : Fin 128).val, by dsimp only; omega⟩)).trans
      (g_kw m c ⟨a.val - 640, by omega⟩)).trans (congrArg (fun z => ar6 m c (ix1 z)) (Fin.ext (by dsimp only; omega))))
  qb a d h1 h2 h3 := (rd5 m c t a).trans (((congrArg (fun z => V m c main_v48 (ix2 0 z)) (Fin.ext (by dsimp only; omega) : a = ⟨768 + (⟨a.val - 768, by omega⟩ : Fin 512).val, by dsimp only; omega⟩)).trans
      (g_qb m c ⟨a.val - 768, by omega⟩)).trans (congrArg (fun z => ar7 m c (ix1 z) * Ideal.ofBits .f32 0x3E000000#32) (Fin.ext (by dsimp only; omega))))
  kb a d h1 h2 := (rd5 m c t a).trans (((congrArg (fun z => V m c main_v48 (ix2 0 z)) (Fin.ext (by dsimp only; omega) : a = ⟨1280 + (⟨a.val - 1280, by omega⟩ : Fin 128).val, by dsimp only; omega⟩)).trans
      (g_kb m c ⟨a.val - 1280, by omega⟩)).trans (congrArg (fun z => ar8 m c (ix1 z)) (Fin.ext (by dsimp only; omega))))

/-- The matrix that the body reads. -/
theorem diag (a b : Fin 256) : iblk m c 4 t (ix2 a b) = (if a.val / 64 = b.val / 64 then Ideal.ofBits .f32 0x3C800000#32 else 0 : EReal) :=
  (rd4 m c t a b).trans (bd m c a b)

end Cert.Kernel2Ideal.InValue

end
-- ==== Proof.InReference.lean ====
/-
  The reference's results of the input projection, read at an index: dot products of the modulated norm with columns of the
  weights, and RMS norms of 64 of them.
-/
module

public import proofs.«01_k».proof.Defs
public import proofs.«01_k».proof.Proof.Gen.Reference2Ideal.Run
public import proofs.«01_k».proof.Proof.InSpec

@[expose] public section

set_option maxRecDepth 16384

noncomputable section

namespace Cert.Reference2Ideal.InValue

open Cert.Reference2Ideal Cert.Reference2Ideal.Gen Cert.PostSpec Cert.InSpec
open Idealize.ShloMosaic Idealize.ShloMosaic.TcCoe Idealize.SL.Sem

/-- The projection of the modulated norm, as the reference writes it. -/
def refProj (a0 : FVec Ideal S32x2048x1024 .f32) (a1 : FVec Ideal S32x6144 .f32) (a2 : FVec Ideal S1024 .f32)
    (a3 : FVec Ideal S1024x4576 .f32) : FVec Ideal S32x2048x4576 .f32 :=
  Host.dotGeneral dot_S32x2048x1024_S1024x4576_S32x2048x4576_2_0_01_1_n_n none (addf (mulf (mulf (mulf a0 (broadcastInDim
    S32x2048x1024 ![0, 1, 2] bcast_S32x2048x1_S32x2048x1024_0_1_2 (Host.rsqrt (addf (Host.divf (broadcastInDim S32x2048x1 ![0,
    1] bcast_S32x2048_S32x2048x1_0_1 (Host.reduceAdd (mulf a0 a0) (constant S_ .f32 0x00000000#32)
    reducesTo_S32x2048x1024_S32x2048_d2 h_S_)) (broadcastInDim S32x2048x1 ![] bcast_S_S32x2048x1 (constant S_ .f32
    0x44800000#32))) (broadcastInDim S32x2048x1 ![] bcast_S_S32x2048x1 (constant S_ .f32 0x358637BD#32)))))) (broadcastInDim
    S32x2048x1024 ![0, 1, 2] bcast_S1x1x1024_S32x2048x1024_0_1_2 (broadcastInDim S1x1x1024 ![2] bcast_S1024_S1x1x1024_2 a2)))
    (broadcastInDim S32x2048x1024 ![0, 1, 2] bcast_S32x1x1024_S32x2048x1024_0_1_2 (addf (broadcastInDim S32x1x1024 ![]
    bcast_S_S32x1x1024 (constant S_ .f32 0x3F800000#32)) (broadcastInDim S32x1x1024 ![0, 2] bcast_S32x1024_S32x1x1024_0_2
    (extractStridedSlice S32x1024 ![0, 1024] a1 slices_S32x6144_S32x1024_0_1024))))) (broadcastInDim S32x2048x1024 ![0, 1, 2]
    bcast_S32x1x1024_S32x2048x1024_0_1_2 (broadcastInDim S32x1x1024 ![0, 2] bcast_S32x1024_S32x1x1024_0_2 (extractStridedSlice
    S32x1024 ![0, 0] a1 slices_S32x6144_S32x1024_0_0)))) a3

/-- The RMS norm of 8 heads, as the reference writes it. -/
def refNorm8 (t : FVec Ideal S32x2048x8x64 .f32) (g : FVec Ideal S64 .f32) : FVec Ideal S32x2048x8x64 .f32 :=
  mulf (mulf t (broadcastInDim S32x2048x8x64 ![0, 1, 2, 3] bcast_S32x2048x8x1_S32x2048x8x64_0_1_2_3 (Host.rsqrt (addf (Host.divf
    (broadcastInDim S32x2048x8x1 ![0, 1, 2] bcast_S32x2048x8_S32x2048x8x1_0_1_2 (Host.reduceAdd (mulf t t) (constant S_ .f32
    0x00000000#32) reducesTo_S32x2048x8x64_S32x2048x8_d3 h_S_)) (broadcastInDim S32x2048x8x1 ![] bcast_S_S32x2048x8x1 (constant
    S_ .f32 0x42800000#32))) (broadcastInDim S32x2048x8x1 ![] bcast_S_S32x2048x8x1 (constant S_ .f32 0x358637BD#32))))))
    (broadcastInDim S32x2048x8x64 ![0, 1, 2, 3] bcast_S1x1x1x64_S32x2048x8x64_0_1_2_3 (broadcastInDim S1x1x1x64 ![3]
    bcast_S64_S1x1x1x64_3 g))

/-- The RMS norm of 2 heads, as the reference writes it. -/
def refNorm2 (t : FVec Ideal S32x2048x2x64 .f32) (g : FVec Ideal S64 .f32) : FVec Ideal S32x2048x2x64 .f32 :=
  mulf (mulf t (broadcastInDim S32x2048x2x64 ![0, 1, 2, 3] bcast_S32x2048x2x1_S32x2048x2x64_0_1_2_3 (Host.rsqrt (addf (Host.divf
    (broadcastInDim S32x2048x2x1 ![0, 1, 2] bcast_S32x2048x2_S32x2048x2x1_0_1_2 (Host.reduceAdd (mulf t t) (constant S_ .f32
    0x00000000#32) reducesTo_S32x2048x2x64_S32x2048x2_d3 h_S_)) (broadcastInDim S32x2048x2x1 ![] bcast_S_S32x2048x2x1 (constant
    S_ .f32 0x42800000#32))) (broadcastInDim S32x2048x2x1 ![] bcast_S_S32x2048x2x1 (constant S_ .f32 0x358637BD#32))))))
    (broadcastInDim S32x2048x2x64 ![0, 1, 2, 3] bcast_S1x1x1x64_S32x2048x2x64_0_1_2_3 (broadcastInDim S1x1x1x64 ![3]
    bcast_S64_S1x1x1x64_3 g))

/-- The RMS norm of 1 head, as the reference writes it. -/
def refNorm1 (t : FVec Ideal S32x2048x1x64 .f32) (g : FVec Ideal S64 .f32) : FVec Ideal S32x2048x1x64 .f32 :=
  mulf (mulf t (broadcastInDim S32x2048x1x64 ![0, 1, 2, 3] bcast_S32x2048x1x1_S32x2048x1x64_0_1_2_3 (Host.rsqrt (addf (Host.divf
    (broadcastInDim S32x2048x1x1 ![0, 1, 2] bcast_S32x2048x1_S32x2048x1x1_0_1_2 (Host.reduceAdd (mulf t t) (constant S_ .f32
    0x00000000#32) reducesTo_S32x2048x1x64_S32x2048x1_d3 h_S_)) (broadcastInDim S32x2048x1x1 ![] bcast_S_S32x2048x1x1 (constant
    S_ .f32 0x42800000#32))) (broadcastInDim S32x2048x1x1 ![] bcast_S_S32x2048x1x1 (constant S_ .f32 0x358637BD#32))))))
    (broadcastInDim S32x2048x1x64 ![0, 1, 2, 3] bcast_S1x1x1x64_S32x2048x1x64_0_1_2_3 (broadcastInDim S1x1x1x64 ![3]
    bcast_S64_S1x1x1x64_3 g))

/-- Result 0, the first mixer's queries, over the projection. -/
def REF0 (p : FVec Ideal S32x2048x4576 .f32) (g : FVec Ideal S64 .f32) : FVec Ideal S32x2048x512 .bf16 :=
  truncf .bf16 (shapeCast _ (transpose S32x2048x4x2x64 [0, 1, 3, 2, 4] (shapeCast _ (mulf (refNorm8 (shapeCast _
    (extractStridedSlice S32x2048x512 ![0, 0, 0] p slices_S32x2048x4576_S32x2048x512_0_0_0)
    shapeCasts_S32x2048x512_S32x2048x8x64) g) (broadcastInDim S32x2048x8x64 ![] bcast_S_S32x2048x8x64 (constant S_ .f32
    0x3E000000#32))) shapeCasts_S32x2048x8x64_S32x2048x2x4x64) transposes_S32x2048x2x4x64_S32x2048x4x2x64_0_1_3_2_4)
    shapeCasts_S32x2048x4x2x64_S32x2048x512) bitsLt_bf16_f32

/-- Result 1, the keys and values to compress, over the projection. -/
def REF1 (p : FVec Ideal S32x2048x4576 .f32) : FVec Ideal S32x2x2048x128 .f32 :=
  transpose S32x2x2048x128 [0, 2, 1, 3] (shapeCast _ (extractStridedSlice S32x2048x256 ![0, 0, 512] p
    slices_S32x2048x4576_S32x2048x256_0_0_512) shapeCasts_S32x2048x256_S32x2048x2x128)
    transposes_S32x2048x2x128_S32x2x2048x128_0_2_1_3

/-- Result 2, the selected and window branches' keys and values, over the projection. -/
def REF2 (p : FVec Ideal S32x2048x4576 .f32) (gs gw : FVec Ideal S64 .f32) : FVec Ideal S32x2048x1024 .bf16 :=
  truncf .bf16 (shapeCast _ (broadcastInDim S32x2048x8x2x64 ![0, 1, 2, 3, 4] bcast_S32x2048x8x1x64_S32x2048x8x2x64_0_1_2_3_4
    (broadcastInDim S32x2048x8x1x64 ![0, 1, 2, 4] bcast_S32x2048x8x64_S32x2048x8x1x64_0_1_2_4 (concatenate S32x2048x8x64 2
    [⟨S32x2048x2x64, refNorm2 (shapeCast _ (extractStridedSlice S32x2048x128 ![0, 0, 768] p
    slices_S32x2048x4576_S32x2048x128_0_0_768) shapeCasts_S32x2048x128_S32x2048x2x64) gs⟩, ⟨S32x2048x2x64, (shapeCast _
    (extractStridedSlice S32x2048x128 ![0, 0, 896] p slices_S32x2048x4576_S32x2048x128_0_0_896)
    shapeCasts_S32x2048x128_S32x2048x2x64)⟩, ⟨S32x2048x2x64, refNorm2 (shapeCast _ (extractStridedSlice S32x2048x128 ![0, 0,
    1024] p slices_S32x2048x4576_S32x2048x128_0_0_1024) shapeCasts_S32x2048x128_S32x2048x2x64) gw⟩, ⟨S32x2048x2x64, (shapeCast _
    (extractStridedSlice S32x2048x128 ![0, 0, 1152] p slices_S32x2048x4576_S32x2048x128_0_0_1152)
    shapeCasts_S32x2048x128_S32x2048x2x64)⟩]
    concatenates_S32x2048x2x64_S32x2048x2x64_S32x2048x2x64_S32x2048x2x64_S32x2048x8x64_d2)))
    shapeCasts_S32x2048x8x2x64_S32x2048x1024) bitsLt_bf16_f32

/-- Result 3, the branch gates, over the projection. -/
def REF3 (p : FVec Ideal S32x2048x4576 .f32) : FVec Ideal S32x2048x128 .f32 :=
  concatenate S32x2048x128 2 [⟨S32x2048x24, (extractStridedSlice S32x2048x24 ![0, 0, 1280] p
    slices_S32x2048x4576_S32x2048x24_0_0_1280)⟩, ⟨S32x2048x104, (broadcastInDim S32x2048x104 ![] bcast_S_S32x2048x104 (constant
    S_ .f32 0x00000000#32))⟩] concatenates_S32x2048x24_S32x2048x104_S32x2048x128_d2

/-- Result 4, the second mixer's queries, over the projection. -/
def REF4 (p : FVec Ideal S32x2048x4576 .f32) (g : FVec Ideal S64 .f32) : FVec Ideal S32x2048x512 .bf16 :=
  truncf .bf16 (shapeCast _ (mulf (refNorm8 (shapeCast _ (extractStridedSlice S32x2048x512 ![0, 0, 1304] p
    slices_S32x2048x4576_S32x2048x512_0_0_1304) shapeCasts_S32x2048x512_S32x2048x8x64) g) (broadcastInDim S32x2048x8x64 ![]
    bcast_S_S32x2048x8x64 (constant S_ .f32 0x3E000000#32))) shapeCasts_S32x2048x8x64_S32x2048x512) bitsLt_bf16_f32

/-- Result 5, the second mixer's key, value and indexer key, over the projection. -/
def REF5 (p : FVec Ideal S32x2048x4576 .f32) (g : FVec Ideal S64 .f32) : FVec Ideal S32x2048x640 .bf16 :=
  truncf .bf16 (shapeCast _ (broadcastInDim S32x2048x5x2x64 ![0, 1, 2, 3, 4] bcast_S32x2048x5x1x64_S32x2048x5x2x64_0_1_2_3_4
    (broadcastInDim S32x2048x5x1x64 ![0, 1, 2, 4] bcast_S32x2048x5x64_S32x2048x5x1x64_0_1_2_4 (concatenate S32x2048x5x64 2
    [⟨S32x2048x1x64, refNorm1 (shapeCast _ (extractStridedSlice S32x2048x64 ![0, 0, 1816] p
    slices_S32x2048x4576_S32x2048x64_0_0_1816) shapeCasts_S32x2048x64_S32x2048x1x64) g⟩, ⟨S32x2048x1x64, refNorm1 (shapeCast _
    (extractStridedSlice S32x2048x64 ![0, 0, 1816] p slices_S32x2048x4576_S32x2048x64_0_0_1816)
    shapeCasts_S32x2048x64_S32x2048x1x64) g⟩, ⟨S32x2048x1x64, (shapeCast _ (extractStridedSlice S32x2048x64 ![0, 0, 1880] p
    slices_S32x2048x4576_S32x2048x64_0_0_1880) shapeCasts_S32x2048x64_S32x2048x1x64)⟩, ⟨S32x2048x1x64, (shapeCast _
    (extractStridedSlice S32x2048x64 ![0, 0, 1880] p slices_S32x2048x4576_S32x2048x64_0_0_1880)
    shapeCasts_S32x2048x64_S32x2048x1x64)⟩, ⟨S32x2048x1x64, (shapeCast _ (extractStridedSlice S32x2048x64 ![0, 0, 2456] p
    slices_S32x2048x4576_S32x2048x64_0_0_2456) shapeCasts_S32x2048x64_S32x2048x1x64)⟩]
    concatenates_S32x2048x1x64_S32x2048x1x64_S32x2048x1x64_S32x2048x1x64_S32x2048x1x64_S32x2048x5x64_d2)))
    shapeCasts_S32x2048x5x2x64_S32x2048x640) bitsLt_bf16_f32

/-- Result 6, the indexer's queries, over the projection. -/
def REF6 (p : FVec Ideal S32x2048x4576 .f32) : FVec Ideal S32x2048x512 .bf16 :=
  truncf .bf16 (mulf (extractStridedSlice S32x2048x512 ![0, 0, 1944] p slices_S32x2048x4576_S32x2048x512_0_0_1944)
    (broadcastInDim S32x2048x512 ![] bcast_S_S32x2048x512 (constant S_ .f32 0x3E000000#32))) bitsLt_bf16_f32

/-- Result 7, the indexer's head weights, over the projection. -/
def REF7 (p : FVec Ideal S32x2048x4576 .f32) : FVec Ideal S32x2048x128 .f32 :=
  concatenate S32x2048x128 2 [⟨S32x2048x8, (mulf (extractStridedSlice S32x2048x8 ![0, 0, 2520] p
    slices_S32x2048x4576_S32x2048x8_0_0_2520) (broadcastInDim S32x2048x8 ![] bcast_S_S32x2048x8 (constant S_ .f32
    0x3EB504F3#32)))⟩, ⟨S32x2048x120, (broadcastInDim S32x2048x120 ![] bcast_S_S32x2048x120 (constant S_ .f32 0x00000000#32))⟩]
    concatenates_S32x2048x8_S32x2048x120_S32x2048x128_d2

/-- Result 8, the merge gates, over the projection. -/
def REF8 (p : FVec Ideal S32x2048x4576 .f32) : FVec Ideal S32x2048x2048 .bf16 :=
  truncf .bf16 (extractStridedSlice S32x2048x2048 ![0, 0, 2528] p slices_S32x2048x4576_S32x2048x2048_0_0_2528) bitsLt_bf16_f32

section
variable (a0 : FVec Ideal S32x2048x1024 .f32) (a1 : FVec Ideal S32x6144 .f32) (a2 : FVec Ideal S1024 .f32)
  (a3 : FVec Ideal S1024x4576 .f32) (p : FVec Ideal S32x2048x4576 .f32) (g g' : FVec Ideal S64 .f32) (b : Fin 32) (s : Fin 2048)

/-- The projection at an index. -/
theorem refProj_apply (n : Fin 4576) : refProj a0 a1 a2 a3 (ix3 b s n)
    = dotRow (h2Row (fun k => a0 (ix3 b s k)) (fun k => a2 (ix1 k)) (fun k => a1 (ix2 b ⟨1024 + k.val, by omega⟩))
        (fun k => a1 (ix2 b ⟨k.val, by omega⟩))) (fun k => a3 (ix2 k n)) := by
  pointwise [refProj]
  simp only [dotRow, h2Row]

/-- A head's norm at an index, of eight heads. -/
theorem refNorm8_apply (t : FVec Ideal S32x2048x8x64 .f32) (n : Fin 8) (j : Fin 64) :
    refNorm8 t g (ix4 b s n j) = headNorm (fun j => t (ix4 b s n j)) j (g (ix1 j)) := by
  pointwise [refNorm8]
  simp only [headNorm]
/-- Of two heads. -/
theorem refNorm2_apply (t : FVec Ideal S32x2048x2x64 .f32) (n : Fin 2) (j : Fin 64) :
    refNorm2 t g (ix4 b s n j) = headNorm (fun j => t (ix4 b s n j)) j (g (ix1 j)) := by
  pointwise [refNorm2]
  simp only [headNorm]
/-- Of one head. -/
theorem refNorm1_apply (t : FVec Ideal S32x2048x1x64 .f32) (n : Fin 1) (j : Fin 64) :
    refNorm1 t g (ix4 b s n j) = headNorm (fun j => t (ix4 b s n j)) j (g (ix1 j)) := by
  obtain rfl : n = 0 := Subsingleton.elim _ _
  pointwise [refNorm1]
  simp only [headNorm]

/-- Result 0 at an index. -/
theorem REF0_apply (c : Fin 512) :
    REF0 p g (ix3 b s c) = qaAt (fun n => p (ix3 b s n)) (fun j => g (ix1 j)) c := by
  pointwise [REF0]
  simp only [refNorm8_apply]
  pointwise
  unfold qaAt
  rfl
/-- Result 1 at an index. -/
theorem REF1_apply (q : Fin 2) (c : Fin 128) :
    REF1 p (ix4 b q s c) = kvcAt (fun n => p (ix3 b s n)) q c := by
  pointwise [REF1]
  unfold kvcAt
  rfl
/-- Result 2 at an index. -/
theorem REF2_apply (c : Fin 1024) :
    REF2 p g g' (ix3 b s c) = nkvAt (fun n => p (ix3 b s n)) (fun j => g (ix1 j)) (fun j => g' (ix1 j)) c := by
  pointwise [REF2]
  simp only [refNorm2_apply]
  pointwise
  unfold nkvAt
  rfl
/-- Result 3 at an index. -/
theorem REF3_apply (c : Fin 128) :
    REF3 p (ix3 b s c) = gnAt (fun n => p (ix3 b s n)) c := by
  pointwise [REF3]
  unfold gnAt
  rfl
/-- Result 4 at an index. -/
theorem REF4_apply (c : Fin 512) :
    REF4 p g (ix3 b s c) = qbAt (fun n => p (ix3 b s n)) (fun j => g (ix1 j)) c := by
  pointwise [REF4]
  simp only [refNorm8_apply]
  pointwise
  unfold qbAt
  rfl
/-- Result 5 at an index. -/
theorem REF5_apply (c : Fin 640) :
    REF5 p g (ix3 b s c) = dkvAt (fun n => p (ix3 b s n)) (fun j => g (ix1 j)) c := by
  pointwise [REF5]
  simp only [refNorm1_apply]
  pointwise
  unfold dkvAt
  rfl
/-- Result 6 at an index. -/
theorem REF6_apply (c : Fin 512) :
    REF6 p (ix3 b s c) = iqAt (fun n => p (ix3 b s n)) c := by
  pointwise [REF6]
  unfold iqAt
  rfl
/-- Result 7 at an index. -/
theorem REF7_apply (c : Fin 128) :
    REF7 p (ix3 b s c) = iwAt (fun n => p (ix3 b s n)) c := by
  pointwise [REF7]
  unfold iwAt
  rfl
/-- Result 8 at an index. -/
theorem REF8_apply (c : Fin 2048) :
    REF8 p (ix3 b s c) = gateAt (fun n => p (ix3 b s n)) c := by
  pointwise [REF8]
  unfold gateAt
  rfl
end

end Cert.Reference2Ideal.InValue

end
-- ==== Proof.InFinal.lean ====
/-
  The input projection's result arrays after the run: each is the reference's term of the same arguments, the two arrays of
  normed keys at the compared lanes.
-/
module

public import proofs.«01_k».proof.Defs
public import proofs.«01_k».proof.Proof.Gen.Kernel2Ideal.Value
public import proofs.«01_k».proof.Proof.InCols
public import proofs.«01_k».proof.Proof.InReference
public import proofs.«01_k».proof.Proof.Gen.On_lanes
public import Idealize.ShloMosaic.Lib.Pipeline.ValueKit

@[expose] public section

set_option maxRecDepth 16384

noncomputable section

namespace Cert.Kernel2Ideal.InValue

open Cert.Kernel2Ideal Cert.Kernel2Ideal.Gen Cert.PostSpec Cert.InSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The reference's projection of the arguments. -/
abbrev rp : FVec Ideal Cert.Reference2Ideal.S32x2048x4576 .f32 :=
  Cert.Reference2Ideal.InValue.refProj (m ((c.tc : Thread nD τ).loc main_arg0)) (m ((c.tc : Thread nD τ).loc main_arg1))
    (m ((c.tc : Thread nD τ).loc main_arg2)) (m ((c.tc : Thread nD τ).loc main_arg3))

/-- Its rows are those of the kernel's product. -/
theorem rp_row (b : Fin 32) (s : Fin 2048) : (fun n : Fin 4576 => rp m c (ix3 b s n)) = proj m c b s :=
  funext fun n => Cert.Reference2Ideal.InValue.refProj_apply _ _ _ _ b s n

/-- The reference's first result's (the first mixer's queries) entries by the row of the product. -/
theorem at0 (b : Fin 32) (s : Fin 2048) (l : Fin 512) : qaAt (proj m c b s) (fun j => ar4 m c (ix1 j)) l = Cert.Reference2Ideal.InValue.REF0 (rp m c) (ar4 m c) (ix3 b s l) := by
  rw [Cert.Reference2Ideal.InValue.REF0_apply, ← rp_row]
/-- The reference's second (the keys and values to compress) entries by the row of the product. -/
theorem at1 (b : Fin 32) (q : Fin 2) (s : Fin 2048) (l : Fin 128) : kvcAt (proj m c b s) q l = Cert.Reference2Ideal.InValue.REF1 (rp m c) (ix4 b q s l) := by
  rw [Cert.Reference2Ideal.InValue.REF1_apply, ← rp_row]
/-- The reference's third (the first mixer's keys and values) entries by the row of the product. -/
theorem at2 (b : Fin 32) (s : Fin 2048) (l : Fin 1024) : nkvAt (proj m c b s) (fun j => ar5 m c (ix1 j)) (fun j => ar6 m c (ix1 j)) l = Cert.Reference2Ideal.InValue.REF2 (rp m c) (ar5 m c) (ar6 m c) (ix3 b s l) := by
  rw [Cert.Reference2Ideal.InValue.REF2_apply, ← rp_row]
/-- The reference's fourth (the branch gates) entries by the row of the product. -/
theorem at3 (b : Fin 32) (s : Fin 2048) (l : Fin 128) : gnAt (proj m c b s) l = Cert.Reference2Ideal.InValue.REF3 (rp m c) (ix3 b s l) := by
  rw [Cert.Reference2Ideal.InValue.REF3_apply, ← rp_row]
/-- The reference's fifth (the second mixer's queries) entries by the row of the product. -/
theorem at4 (b : Fin 32) (s : Fin 2048) (l : Fin 512) : qbAt (proj m c b s) (fun j => ar7 m c (ix1 j)) l = Cert.Reference2Ideal.InValue.REF4 (rp m c) (ar7 m c) (ix3 b s l) := by
  rw [Cert.Reference2Ideal.InValue.REF4_apply, ← rp_row]
/-- The reference's sixth (the second mixer's key and value) entries by the row of the product. -/
theorem at5 (b : Fin 32) (s : Fin 2048) (l : Fin 640) : dkvAt (proj m c b s) (fun j => ar8 m c (ix1 j)) l = Cert.Reference2Ideal.InValue.REF5 (rp m c) (ar8 m c) (ix3 b s l) := by
  rw [Cert.Reference2Ideal.InValue.REF5_apply, ← rp_row]
/-- The reference's seventh (the indexer's queries) entries by the row of the product. -/
theorem at6 (b : Fin 32) (s : Fin 2048) (l : Fin 512) : iqAt (proj m c b s) l = Cert.Reference2Ideal.InValue.REF6 (rp m c) (ix3 b s l) := by
  rw [Cert.Reference2Ideal.InValue.REF6_apply, ← rp_row]
/-- The reference's eighth (the indexer's head weights) entries by the row of the product. -/
theorem at7 (b : Fin 32) (s : Fin 2048) (l : Fin 128) : iwAt (proj m c b s) l = Cert.Reference2Ideal.InValue.REF7 (rp m c) (ix3 b s l) := by
  rw [Cert.Reference2Ideal.InValue.REF7_apply, ← rp_row]
/-- The reference's ninth (the merge gates) entries by the row of the product. -/
theorem at8 (b : Fin 32) (s : Fin 2048) (l : Fin 2048) : gateAt (proj m c b s) l = Cert.Reference2Ideal.InValue.REF8 (rp m c) (ix3 b s l) := by
  rw [Cert.Reference2Ideal.InValue.REF8_apply, ← rp_row]

/-- Result 0 after the run. -/
theorem final0 : (dats m 0 c).arrAt 6 (cfgs 0).N = Cert.Reference2Ideal.InValue.REF0 (rp m c) (ar4 m c) := by
  refine (dats m 0 c).arrAt_eq_of_covers 6 _ (by decide +kernel) fun t hf y => ?_
  blk_simp
  rw [after0_6]
  have hemb : (win0_6.blk t).view.emb y = ix3 (bt t) (row t (y 1)) (y 2) := by
    unfold bt row; blk_ext [idx t]
  rw [hemb]
  have hy : y = ix3 0 (y 1) (y 2) := by blk_ext
  refine (congrArg _ hy).trans ((out6_apply (cols := cols m c t) (gains := gains m c t) (diag := diag m c t) (r := y 1) (l := y 2) ..).trans ?_)
  exact at0 m c _ _ _

set_option maxHeartbeats 1000000 in
/-- Result 1 after the run. -/
theorem final1 : (dats m 0 c).arrAt 7 (cfgs 0).N = Cert.Reference2Ideal.InValue.REF1 (rp m c) := by
  refine (dats m 0 c).arrAt_eq_of_covers 7 _ (by decide +kernel) fun t hf y => ?_
  blk_simp
  rw [after0_7]
  have hemb : (win0_7.blk t).view.emb y = ix4 (bt t) (y 1) (row t (y 2)) (y 3) := by
    unfold bt row; blk_ext [idx t]
  rw [hemb]
  refine (out7_apply (cols := cols m c t) ..).trans ?_
  exact at1 m c _ _ _ _

/-- Result 2 after the run, at the compared lanes. -/
theorem final2 (i : S32x2048x1024.Idx) (hi : (i 2).val % 256 < 64 ∨ 192 ≤ (i 2).val % 256) :
    (dats m 0 c).arrAt 8 (cfgs 0).N i = Cert.Reference2Ideal.InValue.REF2 (rp m c) (ar5 m c) (ar6 m c) i := by
  refine ((dats m 0 c).arrAt_forall_of_covers 8 (fun (i : S32x2048x1024.Idx) v => (i 2).val % 256 < 64 ∨ 192 ≤ (i 2).val % 256 → v = Cert.Reference2Ideal.InValue.REF2 (rp m c) (ar5 m c) (ar6 m c) i) (by decide +kernel) (fun t hf y => ?_) i) hi
  blk_simp
  rw [after0_8]
  have hemb : (win0_8.blk t).view.emb y = ix3 (bt t) (row t (y 1)) (y 2) := by
    unfold bt row; blk_ext [idx t]
  rw [hemb]
  intro hy
  have h0 : win0_8.index t 2 = 0 := rfl
  rw [h0, Nat.zero_mul, Nat.zero_add] at hy
  refine (out8_apply (cols := cols m c t) (gains := gains m c t) (diag := diag m c t) (cond := hy) ..).trans ?_
  exact at2 m c _ _ _

/-- Result 3 after the run. -/
theorem final3 : (dats m 0 c).arrAt 9 (cfgs 0).N = Cert.Reference2Ideal.InValue.REF3 (rp m c) := by
  refine (dats m 0 c).arrAt_eq_of_covers 9 _ (by decide +kernel) fun t hf y => ?_
  blk_simp
  rw [after0_9]
  have hemb : (win0_9.blk t).view.emb y = ix3 (bt t) (row t (y 1)) (y 2) := by
    unfold bt row; blk_ext [idx t]
  rw [hemb]
  have hy : y = ix3 0 (y 1) (y 2) := by blk_ext
  refine (congrArg _ hy).trans ((out9_apply (cols := cols m c t) (r := y 1) (l := y 2) ..).trans ?_)
  exact at3 m c _ _ _

/-- Result 4 after the run. -/
theorem final4 : (dats m 0 c).arrAt 10 (cfgs 0).N = Cert.Reference2Ideal.InValue.REF4 (rp m c) (ar7 m c) := by
  refine (dats m 0 c).arrAt_eq_of_covers 10 _ (by decide +kernel) fun t hf y => ?_
  blk_simp
  rw [after0_10]
  have hemb : (win0_10.blk t).view.emb y = ix3 (bt t) (row t (y 1)) (y 2) := by
    unfold bt row; blk_ext [idx t]
  rw [hemb]
  have hy : y = ix3 0 (y 1) (y 2) := by blk_ext
  refine (congrArg _ hy).trans ((out10_apply (cols := cols m c t) (gains := gains m c t) (diag := diag m c t) (r := y 1) (l := y 2) ..).trans ?_)
  exact at4 m c _ _ _

/-- Result 5 after the run, at the compared lanes. -/
theorem final5 (i : S32x2048x640.Idx) (hi : ((i 2).val % 256 < 64 ∨ 192 ≤ (i 2).val % 256) ∨ 512 ≤ (i 2).val) :
    (dats m 0 c).arrAt 11 (cfgs 0).N i = Cert.Reference2Ideal.InValue.REF5 (rp m c) (ar8 m c) i := by
  refine ((dats m 0 c).arrAt_forall_of_covers 11 (fun (i : S32x2048x640.Idx) v => ((i 2).val % 256 < 64 ∨ 192 ≤ (i 2).val % 256) ∨ 512 ≤ (i 2).val → v = Cert.Reference2Ideal.InValue.REF5 (rp m c) (ar8 m c) i) (by decide +kernel) (fun t hf y => ?_) i) hi
  blk_simp
  rw [after0_11]
  have hemb : (win0_11.blk t).view.emb y = ix3 (bt t) (row t (y 1)) (y 2) := by
    unfold bt row; blk_ext [idx t]
  rw [hemb]
  intro hy
  have h0 : win0_11.index t 2 = 0 := rfl
  rw [h0, Nat.zero_mul, Nat.zero_add] at hy
  refine (out11_apply (cols := cols m c t) (gains := gains m c t) (diag := diag m c t) (cond := hy) ..).trans ?_
  exact at5 m c _ _ _

/-- Result 6 after the run. -/
theorem final6 : (dats m 0 c).arrAt 12 (cfgs 0).N = Cert.Reference2Ideal.InValue.REF6 (rp m c) := by
  refine (dats m 0 c).arrAt_eq_of_covers 12 _ (by decide +kernel) fun t hf y => ?_
  blk_simp
  rw [after0_12]
  have hemb : (win0_12.blk t).view.emb y = ix3 (bt t) (row t (y 1)) (y 2) := by
    unfold bt row; blk_ext [idx t]
  rw [hemb]
  have hy : y = ix3 0 (y 1) (y 2) := by blk_ext
  refine (congrArg _ hy).trans ((out12_apply (cols := cols m c t) (r := y 1) (l := y 2) ..).trans ?_)
  exact at6 m c _ _ _

/-- Result 7 after the run. -/
theorem final7 : (dats m 0 c).arrAt 13 (cfgs 0).N = Cert.Reference2Ideal.InValue.REF7 (rp m c) := by
  refine (dats m 0 c).arrAt_eq_of_covers 13 _ (by decide +kernel) fun t hf y => ?_
  blk_simp
  rw [after0_13]
  have hemb : (win0_13.blk t).view.emb y = ix3 (bt t) (row t (y 1)) (y 2) := by
    unfold bt row; blk_ext [idx t]
  rw [hemb]
  have hy : y = ix3 0 (y 1) (y 2) := by blk_ext
  refine (congrArg _ hy).trans ((out13_apply (cols := cols m c t) (r := y 1) (l := y 2) ..).trans ?_)
  exact at7 m c _ _ _

/-- Result 8 after the run. -/
theorem final8 : (dats m 0 c).arrAt 14 (cfgs 0).N = Cert.Reference2Ideal.InValue.REF8 (rp m c) := by
  refine (dats m 0 c).arrAt_eq_of_covers 14 _ (by decide +kernel) fun t hf y => ?_
  blk_simp
  rw [after0_14]
  have hemb : (win0_14.blk t).view.emb y = ix3 (bt t) (row t (y 1)) (y 2) := by
    unfold bt row; blk_ext [idx t]
  rw [hemb]
  refine (out14_apply (cols := cols m c t) ..).trans ?_
  exact at8 m c _ _ _

/-- The lanes compared, of the words that the mask computes. -/
theorem lane1024 : ∀ x : Fin 1024, IntOp.ori (IntOp.cmpi .slt (IntOp.andi (BitVec.ofNat 32 x.val) 255#32) 64#32)
    (IntOp.cmpi .sge (IntOp.andi (BitVec.ofNat 32 x.val) 255#32) 192#32) = 1#1 → x.val % 256 < 64 ∨ 192 ≤ x.val % 256 := by decide +kernel
/-- The same of the second array. -/
theorem lane640 : ∀ x : Fin 640, IntOp.ori (IntOp.ori (IntOp.cmpi .slt (IntOp.andi (BitVec.ofNat 32 x.val) 255#32) 64#32)
    (IntOp.cmpi .sge (IntOp.andi (BitVec.ofNat 32 x.val) 255#32) 192#32)) (IntOp.cmpi .sge (BitVec.ofNat 32 x.val) 512#32) = 1#1
    → (x.val % 256 < 64 ∨ 192 ≤ x.val % 256) ∨ 512 ≤ x.val := by decide +kernel

section
variable (a0 : FVec Ideal S32x2048x1024 .f32) (a1 : FVec Ideal S32x6144 .f32) (a2 : FVec Ideal S1024 .f32) (a3 : FVec Ideal S1024x4576 .f32)
  (a4 a5 a6 a7 a8 : FVec Ideal S64 .f32)
/-- The mask of the first array of normed keys holds at the compared lanes only. -/
theorem mask2 (i : S32x2048x1024.Idx) (h : (Cert.On_lanes.fn (F := Ideal) a0 a1 a2 a3 a4 a5 a6 a7 a8).2.2.1 i = 1#1) :
    (i 2).val % 256 < 64 ∨ 192 ≤ (i 2).val % 256 := lane1024 (i 2) h
/-- The mask of the second. -/
theorem mask5 (i : S32x2048x640.Idx) (h : (Cert.On_lanes.fn (F := Ideal) a0 a1 a2 a3 a4 a5 a6 a7 a8).2.2.2.2.2.1 i = 1#1) :
    ((i 2).val % 256 < 64 ∨ 192 ≤ (i 2).val % 256) ∨ 512 ≤ (i 2).val := lane640 (i 2) h
end

end Cert.Kernel2Ideal.InValue

end
-- ==== Proof.ModFinal.lean ====
/-
  The conditioning product: kernel and reference, at an index, and the array after the run.
-/
module

public import proofs.«01_k».proof.Defs
public import proofs.«01_k».proof.Proof.InSpec
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.ModValue

open Cert.Kernel3Ideal Cert.Kernel3Ideal.Gen Cert.PostSpec Cert.InSpec
open Idealize.ShloMosaic Idealize.ShloMosaic.TcCoe Idealize.SL.Sem
open Idealize.ShloMosaic.Pipeline (Dat)

/-- One entry of the conditioning: `silu(c) · w + b`. -/
def modAt (x w : Fin 1024 → EReal) (b : EReal) : EReal :=
  dotRow (fun k => x k * sg (x k)) w + b

/-- The body's tile at an entry. -/
theorem out_apply (x0 : FVec Ideal S32x1024 .f32) (x1 : FVec Ideal S1024x512 .f32) (x2 : FVec Ideal S1x512 .f32) (r : Fin 32) (l : Fin 512) :
    (out0_3 (F := Ideal) x0 x1 x2 (ix2 r l) : EReal) = modAt (fun k => x0 (ix2 r k)) (fun k => x1 (ix2 k l)) (x2 (ix2 0 l)) := by
  unfold out0_3
  canon_tiles x h
  case piece0 =>
    pointwise [k0_pay1]
    have e0 : x 0 = r := Fin.ext h0.symm
    have e1 : x 1 = l := Fin.ext h1.symm
    simp only [modAt, dotRow, sg, e0, e1, zero_sub]

/-- The reference's term of its arguments, `silu(x) · w + b`. -/
def refMod (x : FVec Ideal S32x1024 .f32) (w : FVec Ideal S1024x6144 .f32) (b : FVec Ideal S6144 .f32) : FVec Ideal S32x6144 .f32 :=
  addf (Host.dotGeneral Cert.Reference3Ideal.dot_S32x1024_S1024x6144_S32x6144_1_0_0_1_n_n none (mulf x (Host.divf (broadcastInDim Cert.Reference3Ideal.S32x1024 ![] Cert.Reference3Ideal.Gen.bcast_S_S32x1024 (constant Cert.Reference3Ideal.S_ .f32 0x3F800000#32)) (addf (broadcastInDim Cert.Reference3Ideal.S32x1024 ![] Cert.Reference3Ideal.Gen.bcast_S_S32x1024 (constant Cert.Reference3Ideal.S_ .f32 0x3F800000#32)) (Host.exp (Host.negf x))))) w) (broadcastInDim Cert.Reference3Ideal.S32x6144 ![0, 1] Cert.Reference3Ideal.Gen.bcast_S1x6144_S32x6144_0_1 (broadcastInDim Cert.Reference3Ideal.S1x6144 ![1] Cert.Reference3Ideal.Gen.bcast_S6144_S1x6144_1 b))

/-- The reference's entry. -/
theorem ref_apply (x : FVec Ideal S32x1024 .f32) (w : FVec Ideal S1024x6144 .f32) (b : FVec Ideal S6144 .f32) (r : Fin 32) (n : Fin 6144) :
    refMod x w b (ix2 r n) = modAt (fun k => x (ix2 r k)) (fun k => w (ix2 k n)) (b (ix1 n)) := by
  pointwise [refMod]
  simp only [modAt, dotRow, sg]

variable (m : (ℓ : Loc nD τ sig) → Buf (Elt Ideal) ℓ) (c : Dev nD)

/-- Grid point `t` takes tile `t` of 512 columns. -/
theorem idx : ∀ t : Fin cfg0.N, win0_0.index t = ![0, 0] ∧ win0_1.index t = ![0, t.val] ∧ win0_2.index t = ![0, t.val]
    ∧ win0_3.index t = ![0, t.val] ∧ t.val < 12 :=
  (by decide +kernel : ∀ t : Fin grid0.N, _)

/-- The column of lane `l` of point `t`. -/
def col (t : Fin cfg0.N) (l : Fin 512) : Fin 6144 := ⟨t.val * 512 + l.val, by have := idx t; omega⟩

/-- The block of the conditioning vectors is the whole argument. -/
theorem rd0 (t : Fin cfg0.N) (r : Fin 32) (k : Fin 1024) : iblk m c 0 t (ix2 r k) = m ((c.tc : Thread nD τ).loc main_arg0) (ix2 r k) := by
  blk_ext [iblk, V, idx t]
/-- The weights' block is a tile of columns. -/
theorem rd1 (t : Fin cfg0.N) (k : Fin 1024) (l : Fin 512) :
    iblk m c 1 t (ix2 k l) = m ((c.tc : Thread nD τ).loc main_arg1) (ix2 k (col t l)) := by
  unfold col; blk_ext [iblk, V, idx t]
/-- The bias' block is the same tile. -/
theorem rd2 (t : Fin cfg0.N) (l : Fin 512) : iblk m c 2 t (ix2 0 l) = m ((c.tc : Thread nD τ).loc main_arg2) (ix1 (col t l)) := by
  unfold col; blk_point [iblk, V, idx t]

/-- The tile's entry in the arguments. -/
theorem tile (t : Fin cfg0.N) (r : Fin 32) (l : Fin 512) :
    modAt (fun k => iblk m c 0 t (ix2 r k)) (fun k => iblk m c 1 t (ix2 k l)) (iblk m c 2 t (ix2 0 l))
      = modAt (fun k => m ((c.tc : Thread nD τ).loc main_arg0) (ix2 r k)) (fun k => m ((c.tc : Thread nD τ).loc main_arg1) (ix2 k (col t l)))
          (m ((c.tc : Thread nD τ).loc main_arg2) (ix1 (col t l))) := by
  rw [funext (rd0 m c t r), funext fun k => rd1 m c t k l, rd2]

/-- The result array after the run is the reference's term of the same arguments. -/
theorem final : (dats m 0 c).arrAt 3 (cfgs 0).N = refMod (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3]
  have hemb : (win0_3.blk t).view.emb y = ix2 (y 0) (col t (y 1)) := by
    unfold col; blk_ext [idx t]
  have hy : y = ix2 (y 0) (y 1) := by blk_ext
  rw [hemb]
  refine (congrArg (out0_3 _ _ _) hy).trans ((out_apply _ _ _ (y 0) (y 1)).trans ?_)
  refine Eq.trans ?_ (ref_apply _ _ _ (y 0) (col t (y 1))).symm
  exact tile m c t _ _

end Cert.Kernel3Ideal.ModValue

end
-- ==== Proof.InRefRun.lean ====
/-
  The terms of the reference's run of the input projection, over the projection.
-/
module

public import proofs.«01_k».proof.Defs
public import proofs.«01_k».proof.Proof.Gen.Reference2Ideal.Run
public import proofs.«01_k».proof.Proof.InReference

@[expose] public section

set_option maxRecDepth 16384

noncomputable section

namespace Cert.Reference2Ideal.InValue

open Cert.Reference2Ideal Cert.Reference2Ideal.Gen Cert.PostSpec Cert.InSpec
open Idealize.ShloMosaic Idealize.ShloMosaic.TcCoe Idealize.SL.Sem

set_option maxHeartbeats 4000000

/-- The run's term of result 0. -/
theorem res0_eq (m : (ℓ : Loc nD τ sig) → Buf (Elt Ideal) ℓ) (c : Dev nD) :
    Value.res_main_v137 m c = REF0 (refProj (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) := by
  unfold Value.res_main_v137 REF0 refNorm8 refProj
  rfl

/-- The run's term of result 2. -/
theorem res2_eq (m : (ℓ : Loc nD τ sig) → Buf (Elt Ideal) ℓ) (c : Dev nD) :
    Value.res_main_v138 m c = REF2 (refProj (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg5)) (m ((c.tc : Thread nD τ).loc main_arg6)) := by
  unfold Value.res_main_v138 REF2 refNorm2 refProj
  rfl

/-- The run's term of result 4. -/
theorem res4_eq (m : (ℓ : Loc nD τ sig) → Buf (Elt Ideal) ℓ) (c : Dev nD) :
    Value.res_main_v140 m c = REF4 (refProj (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg7)) := by
  unfold Value.res_main_v140 REF4 refNorm8 refProj
  rfl

/-- The run's term of result 5. -/
theorem res5_eq (m : (ℓ : Loc nD τ sig) → Buf (Elt Ideal) ℓ) (c : Dev nD) :
    Value.res_main_v141 m c = REF5 (refProj (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg8)) := by
  unfold Value.res_main_v141 REF5 refNorm1 refProj
  rfl

/-- The projection of all tokens by the run's arguments. -/
def rp (m : (ℓ : Loc nD τ sig) → Buf (Elt Ideal) ℓ) (c : Dev nD) : FVec Ideal S32x2048x4576 .f32 :=
  refProj (m ((c.tc : Thread nD τ).loc main_arg0)) (m ((c.tc : Thread nD τ).loc main_arg1)) (m ((c.tc : Thread nD τ).loc main_arg2)) (m ((c.tc : Thread nD τ).loc main_arg3))

/-- The reference runs to the end with these results, its arguments as they were. -/
theorem run_refs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = REF0 (rp m c) (m ((c.tc : Thread nD τ).loc main_arg4))
      ∧ r.2.mem ((c.tc : Thread nD τ).loc main_v78) = REF1 (rp m c)
      ∧ r.2.mem ((c.tc : Thread nD τ).loc main_v138) = REF2 (rp m c) (m ((c.tc : Thread nD τ).loc main_arg5)) (m ((c.tc : Thread nD τ).loc main_arg6))
      ∧ r.2.mem ((c.tc : Thread nD τ).loc main_v134) = REF3 (rp m c)
      ∧ r.2.mem ((c.tc : Thread nD τ).loc main_v140) = REF4 (rp m c) (m ((c.tc : Thread nD τ).loc main_arg7))
      ∧ r.2.mem ((c.tc : Thread nD τ).loc main_v141) = REF5 (rp m c) (m ((c.tc : Thread nD τ).loc main_arg8))
      ∧ r.2.mem ((c.tc : Thread nD τ).loc main_v142) = REF6 (rp m c)
      ∧ r.2.mem ((c.tc : Thread nD τ).loc main_v136) = REF7 (rp m c)
      ∧ r.2.mem ((c.tc : Thread nD τ).loc main_v143) = REF8 (rp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨h0, h1, h2, h3, h4, h5, h6, h7, h8, ha⟩ := h c
    unfold rp
    exact ⟨h0.trans (res0_eq m c), h1.trans (by unfold REF1 refProj; rfl), h2.trans (res2_eq m c), h3.trans (by unfold REF3 refProj; rfl),
      h4.trans (res4_eq m c), h5.trans (res5_eq m c), h6.trans (by unfold REF6 refProj; rfl), h7.trans (by unfold REF7 refProj; rfl),
      h8.trans (by unfold REF8 refProj; rfl), ha⟩)
    (Value.run (F := Ideal) m ρ)

end Cert.Reference2Ideal.InValue

end
-- ==== Proof.lean ====
/-
  The claims about the layer's last part: the frames of the kernel, of its idealized text and of the reference, and the
  equality of the idealized kernel and the reference as functions on the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.On_lanes
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.PostFinal
public import proofs.«01_k».proof.Proof.InFinal
public import proofs.«01_k».proof.Proof.ModFinal
public import proofs.«01_k».proof.Proof.InRefRun
public import Idealize.ShloMosaic.Lib.Quiescent
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run

@[expose] public section

noncomputable section

namespace Cert.Proof

open Idealize.ShloMosaic Idealize.ShloMosaic.TcCoe Idealize.SL.Sem

/-- The kernel runs to the end, leaves its arguments as they were and every semaphore counter at zero. -/
theorem frame_P : Cert.quiescent_Kernel := fun m ρ _ => Cert.Kernel.Gen.frame m ρ
/-- The same of the idealized kernel. -/
theorem frame_PI : Cert.quiescent_KernelIdeal := fun m ρ _ => Cert.KernelIdeal.Gen.frame m ρ
/-- The same of the reference. -/
theorem frame_RI : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On equal arguments the idealized kernel and the reference end with the same result. -/
theorem algebraic : Cert.algebraic_KernelIdeal_ReferenceIdeal := by
  intro m ρ m' ρ' _ hag
  refine ⟨fun c => Cert.ReferenceIdeal.Value.res_out0 m' c, ?_, ?_⟩
  · refine (θ_run Cert.KernelIdeal.defs _ _).mono (fun _ h c => ⟨(h c).1.trans ?_, (h c).2⟩)
      (Cert.KernelIdeal.Value.run_blocks (F := Ideal) m ρ)
    obtain ⟨h0, h1, h2, h3, h4, h5, h6, h7, h8, h9, h10, h11, h12⟩ := hag c
    show _ = Cert.ReferenceIdeal.Value.res_out0 m' c
    rw [Cert.ReferenceIdeal.PostValue.res_eq, h0, h1, h2, h3, h4, h5, h6, h7, h8, h9, h10, h11, h12]
    exact Cert.KernelIdeal.PostValue.final m c
  · exact (θ_run Cert.ReferenceIdeal.defs _ _).mono (fun _ h c => ⟨(h c).1, (h c).2⟩)
      (Cert.ReferenceIdeal.Value.run (F := Ideal) m' ρ')

/-- The kernel of the input projection runs to the end, leaves its arguments as they were and every semaphore counter at zero. -/
theorem frame_P2 : Cert.quiescent_Kernel2 := fun m ρ _ => Cert.Kernel2.Gen.frame m ρ
/-- The same of the idealized kernel. -/
theorem frame_PI2 : Cert.quiescent_Kernel2Ideal := fun m ρ _ => Cert.Kernel2Ideal.Gen.frame m ρ
/-- The same of the reference. -/
theorem frame_RI2 : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

set_option maxHeartbeats 4000000 in
/-- The idealized kernel of the input projection and its reference end with equal results at the compared lanes. -/
theorem algebraic2 : Cert.algebraic_Kernel2Ideal_Reference2Ideal_on_lanes := by
  intro m ρ m' ρ' _ hag
  refine ⟨fun c => Cert.Reference2Ideal.InValue.REF0 (Cert.Kernel2Ideal.InValue.rp m c) (m ((c.tc : Thread Cert.Kernel2Ideal.nD Cert.Kernel2Ideal.τ).loc Cert.Kernel2Ideal.main_arg4)),
    fun c => Cert.Reference2Ideal.InValue.REF1 (Cert.Kernel2Ideal.InValue.rp m c),
    fun c => Cert.Reference2Ideal.InValue.REF2 (Cert.Kernel2Ideal.InValue.rp m c) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)),
    fun c => Cert.Reference2Ideal.InValue.REF3 (Cert.Kernel2Ideal.InValue.rp m c),
    fun c => Cert.Reference2Ideal.InValue.REF4 (Cert.Kernel2Ideal.InValue.rp m c) (m ((c.tc : Thread Cert.Kernel2Ideal.nD Cert.Kernel2Ideal.τ).loc Cert.Kernel2Ideal.main_arg7)),
    fun c => Cert.Reference2Ideal.InValue.REF5 (Cert.Kernel2Ideal.InValue.rp m c) (m ((c.tc : Thread Cert.Kernel2Ideal.nD Cert.Kernel2Ideal.τ).loc Cert.Kernel2Ideal.main_arg8)),
    fun c => Cert.Reference2Ideal.InValue.REF6 (Cert.Kernel2Ideal.InValue.rp m c),
    fun c => Cert.Reference2Ideal.InValue.REF7 (Cert.Kernel2Ideal.InValue.rp m c),
    fun c => Cert.Reference2Ideal.InValue.REF8 (Cert.Kernel2Ideal.InValue.rp m c), ?_, ?_⟩
  · refine (θ_run Cert.Kernel2Ideal.defs _ _).mono (fun _ h c => ?_) (Cert.Kernel2Ideal.Value.run_blocks (F := Ideal) m ρ)
    obtain ⟨h0, h1, h2, h3, h4, h5, h6, h7, h8, ha⟩ := h c
    exact ⟨fun i _ => congrFun (h0.trans (Cert.Kernel2Ideal.InValue.final0 m c)) i,
      fun i _ => congrFun (h1.trans (Cert.Kernel2Ideal.InValue.final1 m c)) i,
      fun i hi => (congrFun h2 i).trans (Cert.Kernel2Ideal.InValue.final2 m c i (Cert.Kernel2Ideal.InValue.mask2 _ _ _ _ _ _ _ _ _ i hi)),
      fun i _ => congrFun (h3.trans (Cert.Kernel2Ideal.InValue.final3 m c)) i,
      fun i _ => congrFun (h4.trans (Cert.Kernel2Ideal.InValue.final4 m c)) i,
      fun i hi => (congrFun h5 i).trans (Cert.Kernel2Ideal.InValue.final5 m c i (Cert.Kernel2Ideal.InValue.mask5 _ _ _ _ _ _ _ _ _ i hi)),
      fun i _ => congrFun (h6.trans (Cert.Kernel2Ideal.InValue.final6 m c)) i,
      fun i _ => congrFun (h7.trans (Cert.Kernel2Ideal.InValue.final7 m c)) i,
      fun i _ => congrFun (h8.trans (Cert.Kernel2Ideal.InValue.final8 m c)) i, ha⟩
  · refine (θ_run Cert.Reference2Ideal.defs _ _).mono (fun _ h c => ?_) (Cert.Reference2Ideal.InValue.run_refs m' ρ')
    obtain ⟨h0, h1, h2, h3, h4, h5, h6, h7, h8, ha⟩ := h c
    obtain ⟨e0, e1, e2, e3, e4, e5, e6, e7, e8⟩ := hag c
    have hp : Cert.Reference2Ideal.InValue.rp m' c = Cert.Kernel2Ideal.InValue.rp m c := by
      unfold Cert.Reference2Ideal.InValue.rp; rw [e0, e1, e2, e3]
    exact ⟨fun i _ => congrFun (h0.trans (congrArg₂ Cert.Reference2Ideal.InValue.REF0 hp e4)) i,
      fun i _ => congrFun (h1.trans (congrArg Cert.Reference2Ideal.InValue.REF1 hp)) i,
      fun i _ => congrFun (h2.trans (by rw [hp, e5, e6])) i,
      fun i _ => congrFun (h3.trans (congrArg Cert.Reference2Ideal.InValue.REF3 hp)) i,
      fun i _ => congrFun (h4.trans (congrArg₂ Cert.Reference2Ideal.InValue.REF4 hp e7)) i,
      fun i _ => congrFun (h5.trans (congrArg₂ Cert.Reference2Ideal.InValue.REF5 hp e8)) i,
      fun i _ => congrFun (h6.trans (congrArg Cert.Reference2Ideal.InValue.REF6 hp)) i,
      fun i _ => congrFun (h7.trans (congrArg Cert.Reference2Ideal.InValue.REF7 hp)) i,
      fun i _ => congrFun (h8.trans (congrArg Cert.Reference2Ideal.InValue.REF8 hp)) i, ha⟩

/-- The kernel of the conditioning product runs to the end, leaves its arguments as they were and every semaphore counter at zero. -/
theorem frame_P3 : Cert.quiescent_Kernel3 := fun m ρ _ => Cert.Kernel3.Gen.frame m ρ
/-- The same of the idealized kernel. -/
theorem frame_PI3 : Cert.quiescent_Kernel3Ideal := fun m ρ _ => Cert.Kernel3Ideal.Gen.frame m ρ
/-- The same of the reference. -/
theorem frame_RI3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealized kernel of the conditioning product and its reference end with equal results. -/
theorem algebraic3 : Cert.algebraic_Kernel3Ideal_Reference3Ideal := by
  intro m ρ m' ρ' _ hag
  refine ⟨fun c => Cert.Kernel3Ideal.ModValue.refMod (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · exact (θ_run Cert.Kernel3Ideal.defs _ _).mono (fun _ h c => ⟨(h c).1.trans (Cert.Kernel3Ideal.ModValue.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨e0, e1, e2⟩ := hag c
    rw [e0, e1, e2]; rfl

/-- All the claims, of the three calls. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.On_lanes.Gen.facts,
  frame_P, frame_PI, frame_RI, frame_P2, frame_PI2, frame_RI2, frame_P3, frame_PI3, frame_RI3,
  trivial, algebraic, trivial, algebraic2, trivial, algebraic3⟩

end Cert.Proof

end
